-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![768, 512]⟩ ⟨2, ![768, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S768x512 : Shape := ⟨2, ![768, 512]⟩
abbrev S512 : Shape := ⟨1, ![512]⟩
abbrev S_ : Shape := ⟨0, ![]⟩

class Facts : Prop where
  bcast_S_S768x512 : S_.BroadcastsInDim S768x512 (![] : Fin 0 → Fin S768x512.rank)

variable [Facts]

def fn {F : FTy → Type} [FloatOps F] (main_arg0 : FVec F S768x512 .f32) (main_arg1 : FVec F S512 .f32) (main_arg2 : FVec F S512 .f32) : IVec S768x512 1 :=
  let main_v0 : FVec F S768x512 .f32 := Host.absf main_arg0
  let main_cst : FVec F S_ .f32 := constant S_ .f32 0x7F800000#32
  let main_v1 : FVec F S768x512 .f32 := broadcastInDim S768x512 ![] bcast_S_S768x512 main_cst
  let main_v2 : IVec S768x512 1 := cmpf .olt main_v0 main_v1
  main_v2
-- ==== Pre_x_finite_ReferenceIdeal.lean ====
abbrev S768x4096 : Shape := ⟨2, ![768, 4096]⟩
abbrev S4096 : Shape := ⟨1, ![4096]⟩
abbrev S_ : Shape := ⟨0, ![]⟩

class Facts : Prop where
  bcast_S_S768x4096 : S_.BroadcastsInDim S768x4096 (![] : Fin 0 → Fin S768x4096.rank)

variable [Facts]

def fn {F : FTy → Type} [FloatOps F] (main_arg0 : FVec F S768x4096 .f32) (main_arg1 : FVec F S4096 .f32) (main_arg2 : FVec F S4096 .f32) : IVec S768x4096 1 :=
  let main_v0 : FVec F S768x4096 .f32 := Host.absf main_arg0
  let main_cst : FVec F S_ .f32 := constant S_ .f32 0x7F800000#32
  let main_v1 : FVec F S768x4096 .f32 := broadcastInDim S768x4096 ![] bcast_S_S768x4096 main_cst
  let main_v2 : IVec S768x4096 1 := cmpf .olt main_v0 main_v1
  main_v2
-- ==== Kernel.lean ====
abbrev S768x512 : Shape := ⟨2, ![768, 512]⟩
abbrev S512 : Shape := ⟨1, ![512]⟩
abbrev S2x768 : Shape := ⟨2, ![2, 768]⟩
abbrev S7x2x768 : Shape := ⟨3, ![7, 2, 768]⟩
abbrev S7 : Shape := ⟨1, ![7]⟩
abbrev S_ : Shape := ⟨0, ![]⟩
abbrev S1 : Shape := ⟨1, ![1]⟩
abbrev S768 : Shape := ⟨1, ![768]⟩
abbrev S1x768 : Shape := ⟨2, ![1, 768]⟩
abbrev S1x2x768 : Shape := ⟨3, ![1, 2, 768]⟩
abbrev S768x2 : Shape := ⟨2, ![768, 2]⟩
abbrev S768x1 : Shape := ⟨2, ![768, 1]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S768x512, .f32⟩
  | .hbm, ⟨1, _⟩ => ⟨S512, .f32⟩
  | .hbm, ⟨2, _⟩ => ⟨S512, .f32⟩
  | .hbm, ⟨3, _⟩ => ⟨S768x512, .f32⟩
  | .local _ .vmem, ⟨0, _⟩ => ⟨S768x512, .f32⟩
  | .local _ .vmem, ⟨1, _⟩ => ⟨S512, .f32⟩
  | .local _ .vmem, ⟨2, _⟩ => ⟨S512, .f32⟩
  | .local _ .vmem, ⟨3, _⟩ => ⟨S768x512, .f32⟩
  | .local _ .vmem, ⟨4, _⟩ => ⟨S2x768, .f32⟩
  | .local _ .vmem, ⟨5, _⟩ => ⟨S7x2x768, .f32⟩
  | _, _ => ⟨S768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 8 18 bufScoped semScoped dmaSemScoped tileCredit tileCredit_eq_zero tileCredit_pos).withBarriers [(0, 7)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 7

abbrev nD : Nat := 8
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v4 : BitVec 32 := Scalar.subi v2 c1_i32_2
  let c8_i32_3 : BitVec 32 := 8#32
  let v5 : BitVec 32 := Scalar.addi v4 c8_i32_3
  let c8_i32_4 : BitVec 32 := 8#32
  let v6 : BitVec 32 := Scalar.remsi v5 c8_i32_4
  let c1_i32_6 : BitVec 32 := 1#32
  let v9 : BitVec 32 := Scalar.muli v6 c1_i32_6
  let v10 : BitVec 32 := Scalar.addi c0_i32_7 v9
  v10.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.subi v2 c2_i32
  let c8_i32_8 : BitVec 32 := 8#32
  let v12 : BitVec 32 := Scalar.addi v11 c8_i32_8
  let c8_i32_9 : BitVec 32 := 8#32
  let v13 : BitVec 32 := Scalar.remsi v12 c8_i32_9
  let c1_i32_12 : BitVec 32 := 1#32
  let v16 : BitVec 32 := Scalar.muli v13 c1_i32_12
  let v17 : BitVec 32 := Scalar.addi c0_i32_13 v16
  v17.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v18 : BitVec 32 := Scalar.subi v2 c3_i32
  let c8_i32_14 : BitVec 32 := 8#32
  let v19 : BitVec 32 := Scalar.addi v18 c8_i32_14
  let c8_i32_15 : BitVec 32 := 8#32
  let v20 : BitVec 32 := Scalar.remsi v19 c8_i32_15
  let c1_i32_18 : BitVec 32 := 1#32
  let v23 : BitVec 32 := Scalar.muli v20 c1_i32_18
  let v24 : BitVec 32 := Scalar.addi c0_i32_19 v23
  v24.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v25 : BitVec 32 := Scalar.subi v2 c4_i32
  let c8_i32_20 : BitVec 32 := 8#32
  let v26 : BitVec 32 := Scalar.addi v25 c8_i32_20
  let c8_i32_21 : BitVec 32 := 8#32
  let v27 : BitVec 32 := Scalar.remsi v26 c8_i32_21
  let c1_i32_24 : BitVec 32 := 1#32
  let v30 : BitVec 32 := Scalar.muli v27 c1_i32_24
  let v31 : BitVec 32 := Scalar.addi c0_i32_25 v30
  v31.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v32 : BitVec 32 := Scalar.subi v2 c5_i32
  let c8_i32_26 : BitVec 32 := 8#32
  let v33 : BitVec 32 := Scalar.addi v32 c8_i32_26
  let c8_i32_27 : BitVec 32 := 8#32
  let v34 : BitVec 32 := Scalar.remsi v33 c8_i32_27
  let c1_i32_30 : BitVec 32 := 1#32
  let v37 : BitVec 32 := Scalar.muli v34 c1_i32_30
  let v38 : BitVec 32 := Scalar.addi c0_i32_31 v37
  v38.toNat
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v39 : BitVec 32 := Scalar.subi v2 c6_i32
  let c8_i32_32 : BitVec 32 := 8#32
  let v40 : BitVec 32 := Scalar.addi v39 c8_i32_32
  let c8_i32_33 : BitVec 32 := 8#32
  let v41 : BitVec 32 := Scalar.remsi v40 c8_i32_33
  let c1_i32_36 : BitVec 32 := 1#32
  let v44 : BitVec 32 := Scalar.muli v41 c1_i32_36
  let v45 : BitVec 32 := Scalar.addi c0_i32_37 v44
  v45.toNat
def k0_dev7 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v46 : BitVec 32 := Scalar.subi v2 c7_i32
  let c8_i32_38 : BitVec 32 := 8#32
  let v47 : BitVec 32 := Scalar.addi v46 c8_i32_38
  let c8_i32_39 : BitVec 32 := 8#32
  let v48 : BitVec 32 := Scalar.remsi v47 c8_i32_39
  let c1_i32_42 : BitVec 32 := 1#32
  let v51 : BitVec 32 := Scalar.muli v48 c1_i32_42
  let v52 : BitVec 32 := Scalar.addi c0_i32_43 v51
  v52.toNat
def k0_dev8 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v64 : BitVec 32 := Scalar.addi v2 c1_i32_48
  let c8_i32_49 : BitVec 32 := 8#32
  let v65 : BitVec 32 := Scalar.remsi v64 c8_i32_49
  let c1_i32_56 : BitVec 32 := 1#32
  let v68 : BitVec 32 := Scalar.muli v65 c1_i32_56
  let v69 : BitVec 32 := Scalar.addi c0_i32_57 v68
  v69.toNat
def k0_dev9 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v76 : BitVec 32 := Scalar.addi v2 c2_i32_60
  let c8_i32_61 : BitVec 32 := 8#32
  let v77 : BitVec 32 := Scalar.remsi v76 c8_i32_61
  let c1_i32_68 : BitVec 32 := 1#32
  let v80 : BitVec 32 := Scalar.muli v77 c1_i32_68
  let v81 : BitVec 32 := Scalar.addi c0_i32_69 v80
  v81.toNat
def k0_dev10 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_72 : BitVec 32 := 3#32
  let v88 : BitVec 32 := Scalar.addi v2 c3_i32_72
  let c8_i32_73 : BitVec 32 := 8#32
  let v89 : BitVec 32 := Scalar.remsi v88 c8_i32_73
  let c1_i32_80 : BitVec 32 := 1#32
  let v92 : BitVec 32 := Scalar.muli v89 c1_i32_80
  let v93 : BitVec 32 := Scalar.addi c0_i32_81 v92
  v93.toNat
def k0_dev11 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_84 : BitVec 32 := 4#32
  let v100 : BitVec 32 := Scalar.addi v2 c4_i32_84
  let c8_i32_85 : BitVec 32 := 8#32
  let v101 : BitVec 32 := Scalar.remsi v100 c8_i32_85
  let c1_i32_92 : BitVec 32 := 1#32
  let v104 : BitVec 32 := Scalar.muli v101 c1_i32_92
  let v105 : BitVec 32 := Scalar.addi c0_i32_93 v104
  v105.toNat
def k0_dev12 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_96 : BitVec 32 := 5#32
  let v112 : BitVec 32 := Scalar.addi v2 c5_i32_96
  let c8_i32_97 : BitVec 32 := 8#32
  let v113 : BitVec 32 := Scalar.remsi v112 c8_i32_97
  let c1_i32_104 : BitVec 32 := 1#32
  let v116 : BitVec 32 := Scalar.muli v113 c1_i32_104
  let v117 : BitVec 32 := Scalar.addi c0_i32_105 v116
  v117.toNat
def k0_dev13 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_108 : BitVec 32 := 6#32
  let v124 : BitVec 32 := Scalar.addi v2 c6_i32_108
  let c8_i32_109 : BitVec 32 := 8#32
  let v125 : BitVec 32 := Scalar.remsi v124 c8_i32_109
  let c1_i32_116 : BitVec 32 := 1#32
  let v128 : BitVec 32 := Scalar.muli v125 c1_i32_116
  let v129 : BitVec 32 := Scalar.addi c0_i32_117 v128
  v129.toNat
def k0_dev14 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_120 : BitVec 32 := 7#32
  let v136 : BitVec 32 := Scalar.addi v2 c7_i32_120
  let c8_i32_121 : BitVec 32 := 8#32
  let v137 : BitVec 32 := Scalar.remsi v136 c8_i32_121
  let c1_i32_128 : BitVec 32 := 1#32
  let v140 : BitVec 32 := Scalar.muli v137 c1_i32_128
  let v141 : BitVec 32 := Scalar.addi c0_i32_129 v140
  v141.toNat
abbrev stage0_0 : Fin 1 → Memref sig .tc .vmem S768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S768x4096 : Shape := ⟨2, ![768, 4096]⟩
abbrev S4096 : Shape := ⟨1, ![4096]⟩
abbrev S_ : Shape := ⟨0, ![]⟩
abbrev S768 : Shape := ⟨1, ![768]⟩
abbrev S768x1 : Shape := ⟨2, ![768, 1]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S768x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S768, .f32⟩
  | .hbm, ⟨5, _⟩ => ⟨S768x1, .f32⟩
  | .hbm, ⟨6, _⟩ => ⟨S_, .f32⟩
  | .hbm, ⟨7, _⟩ => ⟨S768x1, .f32⟩
  | .hbm, ⟨8, _⟩ => ⟨S768x1, .f32⟩
  | .hbm, ⟨9, _⟩ => ⟨S_, .i32⟩
  | .hbm, ⟨10, _⟩ => ⟨S_, .f32⟩
  | .hbm, ⟨11, _⟩ => ⟨S768, .f32⟩
  | .hbm, ⟨12, _⟩ => ⟨S768x1, .f32⟩
  | .hbm, ⟨13, _⟩ => ⟨S_, .f32⟩
  | .hbm, ⟨14, _⟩ => ⟨S768x1, .f32⟩
  | .hbm, ⟨15, _⟩ => ⟨S768x1, .f32⟩
  | .hbm, ⟨16, _⟩ => ⟨S768x4096, .f32⟩
  | .hbm, ⟨17, _⟩ => ⟨S768x4096, .f32⟩
  | .hbm, ⟨18, _⟩ => ⟨S768x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S768, .f32⟩
  | .hbm, ⟨24, _⟩ => ⟨S768x1, .f32⟩
  | .hbm, ⟨25, _⟩ => ⟨S768x1, .f32⟩
  | .hbm, ⟨26, _⟩ => ⟨S768x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S768x1, .f32⟩
  | .hbm, ⟨32, _⟩ => ⟨S768x1, .f32⟩
  | .hbm, ⟨33, _⟩ => ⟨S768x4096, .f32⟩
  | .hbm, ⟨34, _⟩ => ⟨S768x4096, .f32⟩
  | .hbm, ⟨35, _⟩ => ⟨S1x4096, .f32⟩
  | .hbm, ⟨36, _⟩ => ⟨S768x4096, .f32⟩
  | .hbm, ⟨37, _⟩ => ⟨S768x4096, .f32⟩
  | .hbm, ⟨38, _⟩ => ⟨S_, .f32⟩
  | .hbm, ⟨39, _⟩ => ⟨S768x1, .f32⟩
  | .hbm, ⟨40, _⟩ => ⟨S768x1, .f32⟩
  | .hbm, ⟨41, _⟩ => ⟨S768x1, .f32⟩
  | .hbm, ⟨42, _⟩ => ⟨S768x4096, .f32⟩
  | .hbm, ⟨43, _⟩ => ⟨S768x4096, .f32⟩
  | .hbm, ⟨44, _⟩ => ⟨S1x4096, .f32⟩
  | .hbm, ⟨45, _⟩ => ⟨S768x4096, .f32⟩
  | .hbm, ⟨46, _⟩ => ⟨S768x4096, .f32⟩
  | _, _ => ⟨S768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.Wires.lean ====
/-
# The all-to-all exchange of row sums: devices, semaphores, buffers and the protocol

Each of the eight devices sums its own columns of every row (the row sums and the row sums of squares, its
PARTIALS, a 2×768 block), sends the partials to the seven others, and adds what it received to its own.
With `k` running over `Fin 7`, device `c` sends into slot `k` of the receive buffer of `up k c`
(`k + 1` places further round) and its own slot `k` is filled by `dn k c` (`k + 1` places back).

The semaphores of device `c`, each used for one round:

* the gate (the barrier semaphore): one unit, signalled by `c` itself, waited for by `c`; hands over nothing;
* ready `k`: one unit, signalled by `up k c`, waited for by `c`; hands over slot `k` of `up k c`'s receive buffer
  at whatever it holds, so that `c` may copy into it;
* sent `k`: a block's credit, paid by `c`'s `k`-th copy once its source is read; hands back the share of `c`'s
  partials that the copy was lent;
* landed `k`: a block's credit, paid by the copy of `dn k c`; hands over slot `k` of `c`'s receive buffer, holding
  the partials of `dn k c`.

A device waits at the gate, then signals all its ready marks, then copies (each copy behind one ready wait), then
waits for the landings, and for the sources last. Ranks: a wait on a sent cell is at rank 0, the gate at 1, ready
at 2, landed at 3, and whatever a device still owes at a wait lies strictly above.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: one copy of the rounds for the launch's staging, one for the exchange -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## Devices -/

set_option backward.proofsInPublic true in
/-- The device `k + 1` places further round. -/
def up (k : Fin 7) (c : Dev nD) : Dev nD := ⟨(c.val + (k.val + 1)) % 8, Nat.mod_lt _ (by decide)⟩
set_option backward.proofsInPublic true in
/-- The device `k + 1` places back. -/
def dn (k : Fin 7) (c : Dev nD) : Dev nD := ⟨(c.val + (7 - k.val)) % 8, Nat.mod_lt _ (by decide)⟩

theorem up_dn : ∀ (k : Fin 7) (c : Dev nD), up k (dn k c) = c := by decide
theorem dn_up : ∀ (k : Fin 7) (c : Dev nD), dn k (up k c) = c := by decide

/-! ## Semaphores and cells -/

/-- A semaphore of the exchange that the launch scopes: its kind (0 ready, 1 sent, 2 landed) and its number. -/
abbrev Leg : Type := Fin 3 × Fin 7

set_option backward.proofsInPublic true in
def readyS (k : Fin 7) : Sem sig := ⟨k.val, k.isLt.trans (by decide)⟩
set_option backward.proofsInPublic true in
def sentS (k : Fin 7) : DmaSem sig := ⟨4 + k.val, (Nat.add_lt_add_left k.isLt 4).trans (by decide)⟩
set_option backward.proofsInPublic true in
def landS (k : Fin 7) : DmaSem sig := ⟨11 + k.val, Nat.add_lt_add_left k.isLt 11⟩

/-- The barrier semaphore, not scoped to the launch. -/
abbrev gateS : Sem sig := (SemArray.scalar (sig.barrier 0 rfl) : Sems sig S_).sem

/-- The scoped semaphores of the exchange, -/
def legSem : Leg → SemLoc sig
  | (0, k) => .reg (readyS k)
  | (1, k) => .dma (sentS k)
  | (2, k) => .dma (landS k)
/-- and with the gate. -/
def semOf : Option Leg → SemLoc sig
  | none => .reg gateS
  | some w => legSem w

/-- Device `c`'s cell of a semaphore of the exchange. -/
abbrev cell (c : Dev nD) (o : Option Leg) : GSem nD τ sig := ((c : Thread nD τ), semOf o)

theorem semOf_inj : Function.Injective semOf := by decide

/-- The device whose cell of that name `c` pays. -/
def peer (c : Dev nD) : Option Leg → Dev nD
  | none => c
  | some (0, k) => dn k c
  | some (1, _) => c
  | some (2, k) => up k c
/-- The device that pays `c`'s cell of that name. -/
def payer (c : Dev nD) : Option Leg → Dev nD
  | none => c
  | some (0, k) => up k c
  | some (1, _) => c
  | some (2, k) => dn k c

theorem payer_peer : ∀ (o : Option Leg) (c : Dev nD), payer (peer c o) o = c := by decide
theorem peer_payer : ∀ (o : Option Leg) (c : Dev nD), peer (payer c o) o = c := by decide

/-! ## Buffers -/

abbrev xM : Memref sig .tc .vmem S768x512 .f32 := Memref.whole cc0_stg0_0
abbrev gM : Memref sig .tc .vmem S512 .f32 := Memref.whole cc0_stg1_0
abbrev bM : Memref sig .tc .vmem S512 .f32 := Memref.whole cc0_stg2_0
abbrev oM : Memref sig .tc .vmem S768x512 .f32 := Memref.whole cc0_stg3_0
/-- The device's own partials, -/
abbrev locM : Memref sig .tc .vmem S2x768 .f32 := Memref.whole cc0_scratch0
/-- the receive buffer, seven slots of a block each, -/
abbrev commM : Memref sig .tc .vmem S7x2x768 .f32 := Memref.whole cc0_scratch1

theorem slot_inb : ∀ (k : Fin 7) (a : Fin S7x2x768.rank), (![k.val, 0, 0] : Fin 3 → ℕ) a + S1x2x768.size a ≤ S7x2x768.size a := by decide

/-- and slot `k` of it, the memref the copies name. -/
abbrev slotM (k : Fin 7) : Memref sig .tc .vmem S2x768 .f32 :=
  (commM.slice (Rect.unit (s := S7x2x768) ![k.val, 0, 0] S1x2x768.size (slot_inb k)) (fun _ => rfl)).squeeze S2x768 squeezes_S1x2x768_S2x768

/-- A block's credit. -/
abbrev N : ℕ := (locM : Memref sig .tc .vmem S2x768 .f32).view.dmaCredit
theorem N_pos : 0 < N := View.dmaCredit_pos _ (by decide)

omit [FloatOps F] in
/-- Slot `k`'s element at `j` is the receive buffer's at `k, j`. -/
theorem slot_emb (k : Fin 7) (j : S2x768.Idx) :
    ((slotM k).view.emb j : S7x2x768.Idx) = (Fin.cons k j : (a : Fin 3) → Fin (![7, 2, 768] a)) := by
  show (Rect.unit (s := S7x2x768) ![k.val, 0, 0] S1x2x768.size (slot_inb k)).emb (Shape.reshapeEquiv squeezes_S1x2x768_S2x768.numel_eq j) = _
  rw [Shape.reshapeEquiv_cons_one]
  funext a
  refine Fin.ext ?_
  match a with
  | 0 => show k.val + 1 * 0 = k.val; omega
  | 1 => show 0 + 1 * (j 0).val = (j 0).val; omega
  | 2 => show 0 + 1 * (j 1).val = (j 1).val; omega

omit [FloatOps F] in
theorem mem_slot (k : Fin 7) (i : S7x2x768.Idx) : i ∈ (slotM k).view.set ↔ i 0 = k := by
  constructor
  · intro h
    obtain ⟨j, -, rfl⟩ := Finset.mem_map.mp h
    exact congrFun (slot_emb k j) 0
  · rintro rfl
    refine Finset.mem_map.mpr ⟨fun a => i a.succ, Finset.mem_univ _, ?_⟩
    refine (slot_emb (i 0) _).trans ?_
    funext a
    match a with
    | 0 => rfl
    | 1 => rfl
    | 2 => rfl

/-- Slot `k`'s elements among the receive buffer's. -/
def slotSet (k : Fin 7) : Finset S7x2x768.Idx := (slotM k).view.set

theorem slots_disjoint (k k' : Fin 7) (h : k ≠ k') : Disjoint (slotSet k) (slotSet k') :=
  Finset.disjoint_left.mpr fun i hi hi' => h (((mem_slot k i).mp hi).symm.trans ((mem_slot k' i).mp hi'))
theorem slots_cover : (Finset.univ : Finset (Fin 7)).biUnion slotSet = Finset.univ :=
  Finset.eq_univ_iff_forall.mpr fun i => Finset.mem_biUnion.mpr ⟨i 0, Finset.mem_univ _, (mem_slot _ i).mpr rfl⟩

/-! ## Contents -/

/-- Device `c`'s columns of the rows, -/
def xAt (c : Dev nD) : (cc0_stg0_0 : Ref sig .tc).ty.Contents (Elt F) :=
  (win0_0.blk (0 : Fin 1)).view.read (Elt F) (m ((c : Thread nD τ).loc main_arg0))
/-- its columns of the scale -/
def gAt (c : Dev nD) : (cc0_stg1_0 : Ref sig .tc).ty.Contents (Elt F) :=
  (win0_1.blk (0 : Fin 1)).view.read (Elt F) (m ((c : Thread nD τ).loc main_arg1))
/-- and of the shift. -/
def bAt (c : Dev nD) : (cc0_stg2_0 : Ref sig .tc).ty.Contents (Elt F) :=
  (win0_2.blk (0 : Fin 1)).view.read (Elt F) (m ((c : Thread nD τ).loc main_arg2))

/-- Its partials: the sums of its columns of each row and of their squares. -/
def part (c : Dev nD) : (cc0_scratch0 : Ref sig .tc).ty.Contents (Elt F) := k0_pay2 (xAt m c)
/-- The receive buffer filled: slot `k` holds the partials of the device `k + 1` places back. -/
def filled (c : Dev nD) : (cc0_scratch1 : Ref sig .tc).ty.Contents (Elt F) :=
  fun i : S7x2x768.Idx => part m (dn (i 0) c) (fun a => i a.succ)
/-- Its result. -/
def outAt (c : Dev nD) : (cc0_stg3_0 : Ref sig .tc).ty.Contents (Elt F) :=
  k0_pay3 (k0_pay1 (xAt m c)) (part m c) (filled m c) (gAt m c) (bAt m c)

/-- Slot `k` of `c`'s receive buffer, held at contents of the buffer. -/
def slotPts (c : Dev nD) (k : Fin 7) (f : Buf (Elt F) ((slotM k).view.loc (c : Thread nD τ))) : sProp 𝕄 :=
  (slotM k).view.loc (c : Thread nD τ) ↦[(slotM k).view.set]{fullShare} f
/-- A share of `c`'s partials buffer. -/
def locPts (c : Dev nD) (q : PosShare TreeShare) (f : Buf (Elt F) ((locM : Memref sig .tc .vmem S2x768 .f32).view.loc (c : Thread nD τ))) : sProp 𝕄 :=
  (locM : Memref sig .tc .vmem S2x768 .f32).view.loc (c : Thread nD τ) ↦[(locM : Memref sig .tc .vmem S2x768 .f32).view.set]{q} f
/-- The share of the partials that the `k`-th copy is lent. -/
abbrev lent (k : Fin 7) : PosShare TreeShare := Transfers.shareTok fullShare 7 k

omit [FloatOps F] in
instance slotPts_storable (c : Dev nD) (k f) : BI.Storable (upEmb : UEmb _ 𝕄) (slotPts (F := F) c k f) := by unfold slotPts; infer_instance
omit [FloatOps F] in
instance locPts_storable (c : Dev nD) (q f) : BI.Storable (upEmb : UEmb _ 𝕄) (locPts (F := F) c q f) := by unfold locPts; infer_instance

/-- What a copy of `e`'s partials leaves in slot `k` of the device it goes to agrees with that device's buffer filled. -/
theorem slot_landed (e : Dev nD) (k : Fin 7) (f : Buf (Elt F) ((slotM k).view.loc (up k e : Thread nD τ))) :
    slotPts (up k e) k ((slotM k).view.write (Elt F) f ((locM : Memref sig .tc .vmem S2x768 .f32).view.read (Elt F) (part m e)) Finset.univ)
      = slotPts (up k e) k (filled m (up k e)) := by
  unfold slotPts
  refine pointsTo_congr fun i hi => ?_
  obtain ⟨j, -, rfl⟩ := Finset.mem_map.mp hi
  rw [View.write_emb_of_mem _ _ (Finset.mem_univ _)]
  have h : filled m (up k e) ((slotM k).view.emb j) = filled m (up k e) (Fin.cons k j : (a : Fin 3) → Fin (![7, 2, 768] a)) :=
    congrArg _ (slot_emb k j)
  rw [h]
  show part m e j = part m (dn k (up k e)) j
  rw [dn_up]

omit [FloatOps F] in
theorem slots_split (c : Dev nD) (f : Buf (Elt F) ((c : Thread nD τ).loc cc0_scratch1)) :
    (((c : Thread nD τ).loc cc0_scratch1) ↦{fullShare} f : sProp 𝕄) = bigSep Finset.univ fun k : Fin 7 => slotPts c k f :=
  Ring.pointsTo_blocks (ℓ := (c : Thread nD τ).loc cc0_scratch1) slotSet slots_disjoint slots_cover f
omit [FloatOps F] in
theorem locPts_eq (c : Dev nD) (q : PosShare TreeShare) (f : Buf (Elt F) ((c : Thread nD τ).loc cc0_scratch0)) :
    locPts c q f = (((c : Thread nD τ).loc cc0_scratch0) ↦{q} f : sProp 𝕄) := by
  unfold locPts; rw [View.set_whole]

/-! ## The schedule -/

/-- What the payment of a cell hands its owner. -/
def pay (c : Dev nD) : Option Leg → sProp 𝕄
  | none => iprop(emp)
  | some (0, k) => iprop(∃ f, slotPts (up k c) k f)
  | some (1, k) => locPts c (lent k) (part m c)
  | some (2, k) => slotPts c k (filled m c)
/-- How much it is. -/
def amt : Option Leg → ℕ
  | none => 1
  | some (0, _) => 1
  | some (1, _) => N
  | some (2, _) => N

theorem amt_pos (o : Option Leg) : 0 < amt o := by
  match o with
  | none => exact Nat.one_pos
  | some (0, _) => exact Nat.one_pos
  | some (1, _) => exact N_pos
  | some (2, _) => exact N_pos

instance pay_storable (c : Dev nD) (o : Option Leg) : BI.Storable (upEmb : UEmb _ 𝕄) (pay m c o) := by
  match o with
  | none => unfold pay; infer_instance
  | some (0, _) => unfold pay; infer_instance
  | some (1, _) => unfold pay; infer_instance
  | some (2, _) => unfold pay; infer_instance

/-- The name of a semaphore in the exchange (the gate for one that has none there; no such cell is used). -/
def nameOf (s : SemLoc sig) : Option Leg := Function.invFun semOf s

/-- One round with one payment, for every cell. -/
def sched : Rounds.Schedule (GSem nD τ sig) Unit 𝕄 where
  duties _ r := if r = 0 then {()} else ∅
  unitless _ := False
  amount g _ _ := amt (nameOf g.2)
  payload g _ _ := pay m g.1.1 (nameOf g.2)
  amount_pos g _ _ _ := amt_pos _

instance sched_payload_storable (g : GSem nD τ sig) (r : ℕ) (d : Unit) :
    BI.Storable (upEmb : UEmb _ 𝕄) ((sched (F := F) m).payload g r d) := by
  show BI.Storable upEmb (pay m g.1.1 (nameOf g.2)); infer_instance

theorem nameOf_semOf (o : Option Leg) : nameOf (semOf o) = o := Function.leftInverse_invFun semOf_inj o

section Tables
variable (c : Dev nD) (o : Option Leg)

theorem duties_first (g : GSem nD τ sig) : (sched (F := F) m).duties g 0 = {()} := by dsimp only [sched]; exact if_pos rfl
theorem duties_later (g : GSem nD τ sig) (r : ℕ) (h : 1 ≤ r) : (sched (F := F) m).duties g r = ∅ := by
  dsimp only [sched]; exact if_neg (by omega)
theorem mem_duties (g : GSem nD τ sig) : () ∈ (sched (F := F) m).duties g 0 := by rw [duties_first]; exact Finset.mem_singleton_self _
theorem amount_cell : (sched (F := F) m).amount (cell c o) 0 () = amt o := congrArg amt (nameOf_semOf o)
theorem payload_cell : (sched (F := F) m).payload (cell c o) 0 () = pay m c o := congrArg (pay m c) (nameOf_semOf o)
theorem expect_cell : (sched (F := F) m).expect (cell c o) 0 = amt o := by
  unfold Schedule.expect Schedule.amountOf; rw [duties_first, Finset.sum_singleton, amount_cell]
theorem rest_cell : bigSep ((sched (F := F) m).duties (cell c o) 0 \ ∅) (fun d => (sched (F := F) m).payload (cell c o) 0 d) = pay m c o := by
  rw [Finset.sdiff_empty, duties_first, bigSep_singleton, payload_cell]

end Tables

/-! ## What a device owes -/

/-- What device `c` owes when the payments named in the list are still to be made, in the order of the list. -/
def owed (c : Dev nD) : List (Option Leg) → CellTallies nD τ sig Unit
  | [] => 0
  | o :: l => owed c l + tallyAt (cell (peer c o) o) () (amt o)

/-! The payments a device still owes, in the order it makes them. (The sent cells are paid by the copies themselves.) -/

abbrev lands7 : List (Option Leg) := []
abbrev lands6 : List (Option Leg) := some (2, 6) :: lands7
abbrev lands5 : List (Option Leg) := some (2, 5) :: lands6
abbrev lands4 : List (Option Leg) := some (2, 4) :: lands5
abbrev lands3 : List (Option Leg) := some (2, 3) :: lands4
abbrev lands2 : List (Option Leg) := some (2, 2) :: lands3
abbrev lands1 : List (Option Leg) := some (2, 1) :: lands2
abbrev lands0 : List (Option Leg) := some (2, 0) :: lands1
abbrev readies7 : List (Option Leg) := lands0
abbrev readies6 : List (Option Leg) := some (0, 6) :: readies7
abbrev readies5 : List (Option Leg) := some (0, 5) :: readies6
abbrev readies4 : List (Option Leg) := some (0, 4) :: readies5
abbrev readies3 : List (Option Leg) := some (0, 3) :: readies4
abbrev readies2 : List (Option Leg) := some (0, 2) :: readies3
abbrev readies1 : List (Option Leg) := some (0, 1) :: readies2
abbrev readies0 : List (Option Leg) := some (0, 0) :: readies1
/-- All of them: the own gate, the seven ready marks, the seven landings. -/
abbrev dues : List (Option Leg) := none :: readies0

def rank : Option Leg → ℕ
  | none => 1
  | some (0, _) => 2
  | some (1, _) => 0
  | some (2, _) => 3

def lvls (g : GSem nD τ sig) : Finset Unit := if g.1.2 = .tc then {()} else ∅
/-- The rank of a cell: by its name in the exchange, and 0 for the staging semaphores, which have none. -/
def lv (g : GSem nD τ sig) (_ : Unit) : ℕ := if g.2 ∈ Set.range semOf then rank (nameOf g.2) else 0

theorem lvls_of_ne (g : GSem nD τ sig) (h : g.1.2 ≠ .tc) : lvls g = ∅ := if_neg h
theorem lvls_tc (c : Dev nD) (s : SemLoc sig) : lvls ((c : Thread nD τ), s) = {()} := if_pos rfl
theorem lv_cell (c : Dev nD) (o : Option Leg) (u : Unit) : lv (cell c o) u = rank o := by
  unfold lv; rw [if_pos ⟨o, rfl⟩, nameOf_semOf]

theorem owed_pos {c : Dev nD} {g : GSem nD τ sig} {u : Unit} : ∀ {l : List (Option Leg)}, 0 < owed c l g u → ∃ o ∈ l, g = cell (peer c o) o
  | [], h => absurd h (Nat.lt_irrefl 0)
  | o :: l, h => by
    unfold owed at h
    rw [Pi.add_apply, Finsupp.add_apply] at h
    rcases Nat.eq_zero_or_pos (owed c l g u) with h0 | h0
    · rw [h0, Nat.zero_add] at h
      exact ⟨o, List.mem_cons_self, (Pipeline.tallyAt_pos h).1⟩
    · obtain ⟨o', ho', e⟩ := owed_pos h0
      exact ⟨o', List.mem_cons_of_mem _ ho', e⟩

/-- A wait on a cell below everything still owed is allowed. -/
theorem mayWait_below (c : Dev nD) (s : SemLoc sig) (l : List (Option Leg)) (n : ℕ) (hs : lv ((c : Thread nD τ), s) () ≤ n)
    (hl : ∀ o ∈ l, n < rank o) : (levAts lvls lv : sProp 𝕄) ⊢ MayWait (c : Thread nD τ) s () (owed c l) :=
  MayOwe.of_cut (L := lvls) (lev := lv) n
    (fun p hp => by rw [Finset.mem_singleton.mp hp, lvls_tc]; exact Finset.mem_singleton_self _)
    (fun g u hg => by obtain ⟨o, -, rfl⟩ := owed_pos hg; exact Finset.mem_singleton_self _)
    (fun p hp => by rw [Finset.mem_singleton.mp hp]; exact hs)
    (fun g u hg => by obtain ⟨o, ho, rfl⟩ := owed_pos hg; rw [lv_cell]; exact hl o ho)

/-- The staging semaphores rank 0, below all that is ever owed. -/
theorem lv_staging (c : Dev nD) (q : DmaSem sig) (hq : q.val < 4) : lv ((c : Thread nD τ), .dma q) () = 0 := by
  unfold lv
  refine if_neg ?_
  rintro ⟨o, ho⟩
  match o, ho with
  | none, ho => cases ho
  | some (0, k), ho => cases ho
  | some (1, k), ho => cases ho; exact absurd hq (by simp only [sentS]; omega)
  | some (2, k), ho => cases ho; exact absurd hq (by simp only [landS]; omega)

end Cert.LayerNorm
-- ==== Proof.Steps.lean ====
/-
# The steps of the exchange

What each effect of the kernel's body does to the ghost state, stated once for all seven legs: a signal pays a
cell, a copy lends a share of the partials and fills a slot of another device's buffer, a wait spends the credit of
a cell, takes what was handed over, and closes the cell. Each is stated for a device, a semaphore or a memref that
EQUALS the one the protocol names, so that the program's own spelling fits.
-/
module

public import proofs.«01_k».proof.Proof.Wires

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The names of the cells' invariants. -/
abbrev Names : Type := Dev nD × Option Leg → ℕ

abbrev cellAt (co : Dev nD × Option Leg) : GSem nD τ sig := cell co.1 co.2

/-- What every device knows: the invariant of every cell, and that every cell stands at its round. -/
def records (K : Names) : sProp 𝕄 :=
  iprop((bigSep Finset.univ fun co : Dev nD × Option Leg => cellInv EX (sched m) (K co) (cellAt co))
    ∗ bigSep Finset.univ fun co : Dev nD × Option Leg => reached EX (cellAt co) 0)

instance records_persistent (K : Names) : BI.Persistent (records m K) := by unfold records; infer_instance

theorem all_inv (K : Names) (co : Dev nD × Option Leg) :
    (bigSep Finset.univ fun co : Dev nD × Option Leg => (cellInv EX (sched m) (K co) (cellAt co) : sProp 𝕄)) ⊢ cellInv EX (sched m) (K co) (cellAt co) :=
  bigSep_elim (Finset.mem_univ co)
theorem all_reached (co : Dev nD × Option Leg) :
    (bigSep Finset.univ fun co : Dev nD × Option Leg => (reached EX (cellAt co) 0 : sProp 𝕄)) ⊢ reached EX (cellAt co) 0 :=
  bigSep_elim (Finset.mem_univ co)
theorem records_inv (K : Names) (c : Dev nD) (o : Option Leg) : (records m K : sProp 𝕄) ⊢ cellInv EX (sched m) (K (c, o)) (cell c o) := by
  unfold records
  iintro ⟨H, -⟩
  iapply (all_inv m K (c, o))
  iexact H
theorem records_reached (K : Names) (c : Dev nD) (o : Option Leg) : (records m K : sProp 𝕄) ⊢ reached EX (cell c o) 0 := by
  unfold records
  iintro ⟨-, H⟩
  iapply (all_reached (F := F) (c, o))
  iexact H

/-- Device `c` still owes the payments of the list. -/
def debt (c : Dev nD) (l : List (Option Leg)) : sProp 𝕄 := iprop(∃ W, owes (c : Thread nD τ) (owed c l) W)

abbrev 𝒱₀ : Variants := Variants.none

/-- The weakest precondition of the rest of device `c`'s body. -/
abbrev wpB {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps

variable (K : Names) (c n : Dev nD) (o : Option Leg) (l : List (Option Leg)) {α : Type}
  {k : PUnit → Prog (TpuEff nD τ sig (Elt F) Λ₀ .tc) α}

/-- A signal pays the cell it names, with what the cell's owner is to be handed. -/
theorem step_signal {Q : α → sProp 𝕄} (s : Sem sig) (hn : n = peer c o) (hs : SemLoc.reg s = semOf o) (ha : amt o = 1) :
    iprop(records m K ∗ debt c (o :: l) ∗ dutyTok EX (cell (peer c o) o) 0 () ∗ pay m (peer c o) o)
      ⊢ iprop((debt c l -∗ wpB c (k ⟨⟩) Q) -∗ wpB c (.op (.semSignal (Dev.tc n : Thread nD τ) s (1#32 : BitVec 32).toInt) k) Q) := by
  subst hn
  have hcell : ((peer c o : Thread nD τ), SemLoc.reg s) = cell (peer c o) o := congrArg _ hs
  unfold debt
  iintro ⟨#HR, ⟨%W, HO⟩, Htok, Hpay⟩ Hk
  iapply (Rounds.wp_signal 𝒱₀ EX (sched m) (c : Thread nD τ) none (dst := (peer c o : Thread nD τ)) (sem := s) (κ := K (peer c o, o)) (r := 0)
      (d := ()) (k' := 1) (mem_duties m _) (by rw [hcell, amount_cell, ha]) () (O₀ := owed c (o :: l)) (owed c l)
      (by show owed c l + tallyAt (cell (peer c o) o) () (amt o) = _; rw [hcell, ha])) $$ [HO Htok Hpay]
  · rw [hcell, payload_cell]
    isplitr; · iapply (records_inv m K (peer c o) o); iexact HR
    isplitl [HO]; · iexact HO
    isplitl [Htok]; · iexact Htok
    isplitl [Hpay]; · iexact Hpay
    iapply (records_reached m K (peer c o) o); iexact HR
  iintro HO
  iapply Hk
  iexists W; iexact HO

/-- A wait on an own cell, everything still owed lying above it: what was handed over, and the cell closed. -/
theorem step_wait {Q : α → sProp 𝕄} {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (semOf o) (amt o) P)
    (hl : ∀ o' ∈ l, rank o < rank o') :
    iprop(records m K ∗ levAts lvls lv ∗ debt c l ∗ cred (tallyAt (cell c o) () (amt o)) ∗ atPos EX (cell c o) 0 ∅ 0)
      ⊢ iprop(((debt c l ∗ pay m c o ∗ semVal (cell c o) 0) -∗ wpB c (k ⟨⟩) Q) -∗ wpB c (.op w k) Q) := by
  unfold debt
  iintro ⟨#HR, #Hlev, ⟨%W, HO⟩, Hcr, Hat⟩ Hk
  iapply (Rounds.wp_wait_rest_token 𝒱₀ EX (sched m) (c : Thread nD τ) none (κ := K (c, o)) (sm := semOf o) (k' := amt o) hw (Set.mem_univ _) ()
      (O := owed c l) (W := W) (R := 0) (m := 0) (T := ∅) (by rw [Nat.zero_add, expect_cell])) $$ [HO Hcr Hat]
  · isplitr; · iapply (records_inv m K c o); iexact HR
    isplitl [Hcr]; · iexact Hcr
    isplitl [HO]; · iexact HO
    isplitr; · iapply (mayWait_below c (semOf o) l (rank o) (le_of_eq (lv_cell c o ())) hl); iexact Hlev
    iexact Hat
  iintro ⟨HO, Hat, -, Hpay⟩
  ihave Hp := (Entails.of_eq (rest_cell m c o)) $$ Hpay
  imod (Rounds.cell_close EX (sched m) (Set.mem_univ (K (c, o))) (fun h => h) (R := 0 + 1) (duties_later m (cell c o))) $$ [Hat] with Hz
  · isplitr; · iapply (records_inv m K c o); iexact HR
    iexact Hat
  iapply Hk
  isplitl [HO]; · iexists _; iexact HO
  isplitl [Hp]; · iexact Hp
  iexact Hz

/-- On a regular semaphore, for one unit; -/
theorem step_wait_reg {Q : α → sProp 𝕄} (s : Sem sig) (hs : SemLoc.reg s = semOf o) (ha : amt o = 1) (hl : ∀ o' ∈ l, rank o < rank o') :
    iprop(records m K ∗ levAts lvls lv ∗ debt c l ∗ cred (tallyAt (cell c o) () (amt o)) ∗ atPos EX (cell c o) 0 ∅ 0)
      ⊢ iprop(((debt c l ∗ pay m c o ∗ semVal (cell c o) 0) -∗ wpB c (k ⟨⟩) Q) -∗ wpB c (.op (.semWait s (1#32 : BitVec 32).toInt) k) Q) :=
  step_wait m K c o l (fun P => by
    rw [← hs, ha]; exact wpE_semWait_eq 𝒱₀ (c : Thread nD τ) none Set.univ (k := 1) P) hl

/-- on a copy's semaphore, for a block's credit. -/
theorem step_wait_dma {Q : α → sProp 𝕄} (s : DmaSem sig) (src dst : Memref sig .tc .vmem S2x768 .f32) (h1 : src.view.WordExact) (h2 : dst.view.WordExact)
    (hs : SemLoc.dma s = semOf o) (ha : dst.view.dmaCredit = amt o) (hl : ∀ o' ∈ l, rank o < rank o') :
    iprop(records m K ∗ levAts lvls lv ∗ debt c l ∗ cred (tallyAt (cell c o) () (amt o)) ∗ atPos EX (cell c o) 0 ∅ 0)
      ⊢ iprop(((debt c l ∗ pay m c o ∗ semVal (cell c o) 0) -∗ wpB c (k ⟨⟩) Q) -∗ wpB c (.op (.waitDma2 s src dst h1 h2) k) Q) :=
  step_wait m K c o l (fun P => by
    rw [← hs, ← ha]; exact wpE_waitDma2_eq 𝒱₀ (c : Thread nD τ) none Set.univ P) hl

theorem slot_credit (k : Fin 7) : (slotM k).view.dmaCredit = N := by revert k; decide

/-- Copy `j`: a share of the own partials is lent, slot `j` of `up j c` filled, and its landing paid. -/
theorem step_copy {Q : α → sProp 𝕄} (j : Fin 7) (ss rs : DmaSem sig) (hn : n = up j c) (hss : ss = sentS j) (hrs : rs = landS j)
    {hsc : (slotM j : Memref sig (Dev.tc n : Thread nD τ).2.kind .vmem S2x768 .f32).view.ref.isScScratch = false}
    {hsrc : (locM : Memref sig .tc .vmem S2x768 .f32).view.WordExact} {hdst : (slotM j).view.WordExact}
    {hsem : DmaTarget.Typed .vmem (.dma rs) (.remote (Dev.tc n : Thread nD τ) (slotM j) (.dma ss) hsc)}
    (f : Buf (Elt F) ((slotM j).view.loc (up j c : Thread nD τ))) :
    iprop(records m K ∗ locPts c (lent j) (part m c) ∗ slotPts (up j c) j f ∗ debt c (some (2, j) :: l)
        ∗ dutyTok EX (cell c (some (1, j))) 0 () ∗ dutyTok EX (cell (up j c) (some (2, j))) 0 ())
      ⊢ iprop(((cred (tallyAt (cell c (some (1, j))) () N) ∗ debt c l) -∗ wpB c (k ⟨⟩) Q)
          -∗ wpB c (.op (.enqueueDma locM (.remote (Dev.tc n : Thread nD τ) (slotM j) (.dma ss) hsc) (.dma rs) hsrc hdst hsem) k) Q) := by
  subst hn hss hrs
  unfold debt
  iintro ⟨#HR, Hloc, Hslot, ⟨%W, HO⟩, Ht1, Ht2⟩ Hk
  unfold locPts slotPts
  iapply (Rounds.wp_send_pointsTo 𝒱₀ EX (sched m) (c : Thread nD τ) none (sS := .dma (sentS j)) (sem := .dma (landS j))
      (κ₁ := K (c, some (1, j))) (κ₂ := K (up j c, some (2, j))) (r₁ := 0) (r₂ := 0) (d₁ := ()) (d₂ := ()) (fd := f) (fs := part m c) (q := lent j)
      (mem_duties m _) (mem_duties m _) () () N (slot_credit j) (amount_cell m c (some (1, j))) (amount_cell m (up j c) (some (2, j)))
      (O₀ := owed c (some (2, j) :: l)) (owed c l) rfl (W := W)
      (by rw [show ((c : Thread nD τ), SemLoc.dma (sentS j)) = cell c (some (1, j)) from rfl, payload_cell]; exact BI.Entails.refl _)
      (by
        rw [show ((up j c : Thread nD τ), SemLoc.dma (landS j)) = cell (up j c) (some (2, j)) from rfl, payload_cell]
        exact Entails.of_eq (slot_landed m c j f))) $$ [Hloc Hslot HO Ht1 Ht2]
  · isplitr; · iapply (records_inv m K c (some (1, j))); iexact HR
    isplitr; · iapply (records_inv m K (up j c) (some (2, j))); iexact HR
    isplitl [Hloc]; · iexact Hloc
    isplitl [Hslot]; · iexact Hslot
    isplitl [HO]; · iexact HO
    isplitl [Ht1]; · iexact Ht1
    isplitr; · iapply (records_reached m K c (some (1, j))); iexact HR
    isplitl [Ht2]; · iexact Ht2
    iapply (records_reached m K (up j c) (some (2, j))); iexact HR
  iintro ⟨Hcr, HO⟩
  iapply Hk
  isplitl [Hcr]; · iexact Hcr
  iexists W; iexact HO

/-! The same, their premises taken one after the other. -/

theorem signal_gate (Q : α → sProp 𝕄) :
    (records m K : sProp 𝕄) ⊢ iprop(debt c (none :: l) -∗ dutyTok EX (cell c none) 0 () -∗ (debt c l -∗ wpB c (k ⟨⟩) Q)
      -∗ wpB c (.op (.semSignal (c : Thread nD τ) gateS (1#32 : BitVec 32).toInt) k) Q) := by
  iintro HR HO Ht
  iapply (step_signal m K c c none l gateS rfl rfl rfl (Q := Q) (k := k))
  isplitl [HR]; · iexact HR
  isplitl [HO]; · iexact HO
  isplitl [Ht]; · iexact Ht
  unfold pay; iempintro

/-- The `j`-th ready mark goes to `dn j c`, with slot `j` of `c`'s own receive buffer. -/
theorem signal_ready (Q : α → sProp 𝕄) (j : Fin 7) (hn : n = dn j c) (f : Buf (Elt F) ((slotM j).view.loc (c : Thread nD τ))) :
    (records m K : sProp 𝕄) ⊢ iprop(debt c (some (0, j) :: l) -∗ dutyTok EX (cell (dn j c) (some (0, j))) 0 () -∗ slotPts c j f
      -∗ (debt c l -∗ wpB c (k ⟨⟩) Q) -∗ wpB c (.op (.semSignal (Dev.tc n : Thread nD τ) (readyS j) (1#32 : BitVec 32).toInt) k) Q) := by
  iintro HR HO Ht Hs
  iapply (step_signal m K c n (some (0, j)) l (readyS j) hn rfl rfl (Q := Q) (k := k))
  isplitl [HR]; · iexact HR
  isplitl [HO]; · iexact HO
  isplitl [Ht]; · iexact Ht
  unfold peer pay
  iexists f; rw [up_dn]; iexact Hs

theorem wait_gate (Q : α → sProp 𝕄) (hl : ∀ o' ∈ l, 1 < rank o') :
    (records m K : sProp 𝕄) ⊢ iprop(levAts lvls lv -∗ debt c l -∗ cred (tallyAt (cell c none) () 1) -∗ atPos EX (cell c none) 0 ∅ 0
      -∗ ((debt c l ∗ semVal (cell c none) 0) -∗ wpB c (k ⟨⟩) Q) -∗ wpB c (.op (.semWait gateS (1#32 : BitVec 32).toInt) k) Q) := by
  iintro HR HL HO Hc Ha Hk
  iapply (step_wait_reg m K c none l gateS rfl rfl hl (Q := Q) (k := k)) $$ [HR HL HO Hc Ha]
  · isplitl [HR]; · iexact HR
    isplitl [HL]; · iexact HL
    isplitl [HO]; · iexact HO
    isplitl [Hc]; · iexact Hc
    iexact Ha
  iintro ⟨HO, -, Hz⟩
  iapply Hk
  isplitl [HO]; · iexact HO
  iexact Hz

theorem wait_ready (Q : α → sProp 𝕄) (j : Fin 7) (hl : ∀ o' ∈ l, 2 < rank o') :
    (records m K : sProp 𝕄) ⊢ iprop(levAts lvls lv -∗ debt c l -∗ cred (tallyAt (cell c (some (0, j))) () 1) -∗ atPos EX (cell c (some (0, j))) 0 ∅ 0
      -∗ ((debt c l ∗ (∃ f, slotPts (up j c) j f) ∗ semVal (cell c (some (0, j))) 0) -∗ wpB c (k ⟨⟩) Q)
      -∗ wpB c (.op (.semWait (readyS j) (1#32 : BitVec 32).toInt) k) Q) := by
  iintro HR HL HO Hc Ha
  iapply (step_wait_reg m K c (some (0, j)) l (readyS j) rfl rfl hl (Q := Q) (k := k))
  isplitl [HR]; · iexact HR
  isplitl [HL]; · iexact HL
  isplitl [HO]; · iexact HO
  isplitl [Hc]; · iexact Hc
  iexact Ha

/-- The `j`-th landing: slot `j`, filled. -/
theorem wait_landed (Q : α → sProp 𝕄) (j : Fin 7) {src dst : Memref sig .tc .vmem S2x768 .f32} {h1 : src.view.WordExact} {h2 : dst.view.WordExact}
    (ha : dst.view.dmaCredit = N) :
    (records m K : sProp 𝕄) ⊢ iprop(levAts lvls lv -∗ debt c [] -∗ cred (tallyAt (cell c (some (2, j))) () N) -∗ atPos EX (cell c (some (2, j))) 0 ∅ 0
      -∗ ((debt c [] ∗ slotPts c j (filled m c) ∗ semVal (cell c (some (2, j))) 0) -∗ wpB c (k ⟨⟩) Q)
      -∗ wpB c (.op (.waitDma2 (landS j) src dst h1 h2) k) Q) := by
  iintro HR HL HO Hc Ha
  iapply (step_wait_dma m K c (some (2, j)) [] (landS j) src dst h1 h2 rfl ha (by simp) (Q := Q) (k := k))
  isplitl [HR]; · iexact HR
  isplitl [HL]; · iexact HL
  isplitl [HO]; · iexact HO
  isplitl [Hc]; · iexact Hc
  iexact Ha

/-- The `j`-th copy's source: the share it was lent, back. -/
theorem wait_sent (Q : α → sProp 𝕄) (j : Fin 7) {src dst : Memref sig .tc .vmem S2x768 .f32} {h1 : src.view.WordExact} {h2 : dst.view.WordExact}
    (ha : dst.view.dmaCredit = N) :
    (records m K : sProp 𝕄) ⊢ iprop(levAts lvls lv -∗ debt c [] -∗ cred (tallyAt (cell c (some (1, j))) () N) -∗ atPos EX (cell c (some (1, j))) 0 ∅ 0
      -∗ ((debt c [] ∗ locPts c (lent j) (part m c) ∗ semVal (cell c (some (1, j))) 0) -∗ wpB c (k ⟨⟩) Q)
      -∗ wpB c (.op (.waitDma2 (sentS j) src dst h1 h2) k) Q) := by
  iintro HR HL HO Hc Ha
  iapply (step_wait_dma m K c (some (1, j)) [] (sentS j) src dst h1 h2 rfl ha (by simp) (Q := Q) (k := k))
  isplitl [HR]; · iexact HR
  isplitl [HL]; · iexact HL
  isplitl [HO]; · iexact HO
  isplitl [Hc]; · iexact Hc
  iexact Ha

theorem copy (Q : α → sProp 𝕄) (j : Fin 7) (hn : n = up j c)
    {hsc : (slotM j : Memref sig (Dev.tc n : Thread nD τ).2.kind .vmem S2x768 .f32).view.ref.isScScratch = false}
    {hsrc : (locM : Memref sig .tc .vmem S2x768 .f32).view.WordExact} {hdst : (slotM j).view.WordExact}
    {hsem : DmaTarget.Typed .vmem (.dma (landS j)) (.remote (Dev.tc n : Thread nD τ) (slotM j) (.dma (sentS j)) hsc)} :
    (records m K : sProp 𝕄) ⊢ iprop(locPts c (lent j) (part m c) -∗ (∃ f, slotPts (up j c) j f) -∗ debt c (some (2, j) :: l)
        -∗ dutyTok EX (cell c (some (1, j))) 0 () -∗ dutyTok EX (cell (up j c) (some (2, j))) 0 ()
        -∗ ((cred (tallyAt (cell c (some (1, j))) () N) ∗ debt c l) -∗ wpB c (k ⟨⟩) Q)
        -∗ wpB c (.op (.enqueueDma locM (.remote (Dev.tc n : Thread nD τ) (slotM j) (.dma (sentS j)) hsc) (.dma (landS j)) hsrc hdst hsem) k) Q) := by
  iintro HR Hl ⟨%f, Hs⟩ HO H1 H2
  iapply (step_copy m K c n l j (sentS j) (landS j) hn rfl rfl f (Q := Q) (k := k))
  isplitl [HR]; · iexact HR
  isplitl [Hl]; · iexact Hl
  isplitl [Hs]; · iexact Hs
  isplitl [HO]; · iexact HO
  isplitl [H1]; · iexact H1
  iexact H2

end Steps

end Cert.LayerNorm
-- ==== Proof.Body.lean ====
/-
# The kernel's body on one device

The body is run effect by effect, in its own order, from what the launch deals a device to what the device leaves:
its result staged, every semaphore of the exchange closed at zero.
-/
module

public import proofs.«01_k».proof.Proof.Gen.KernelIdeal.Points
public import proofs.«01_k».proof.Proof.Steps

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and what it leaves -/

/-- A device's position in its own cells, and the rights to pay the cells it pays. -/
def linear (c : Dev nD) : sProp 𝕄 :=
  iprop((bigSep Finset.univ fun o : Option Leg => atPos EX (cell c o) 0 ∅ 0)
    ∗ bigSep Finset.univ fun o : Option Leg => dutyTok EX (cell (peer c o) o) 0 ())

/-- The credit of a device's own cells of the list: what others owe it. -/
def creds (c : Dev nD) : List (Option Leg) → sProp 𝕄
  | [] => iprop(emp)
  | o :: l => iprop(cred (tallyAt (cell c o) () (amt o)) ∗ creds c l)

def ghost (c : Dev nD) : sProp 𝕄 := iprop(∃ K, records m K ∗ linear c)

def start (c : Dev nD) : sProp 𝕄 := iprop(ghost m c ∗ creds c dues ∗ levAts lvls lv)

abbrev wholePts (c : Dev nD) (b : Ref sig .tc) (f : Buf (Elt F) ((c : Thread nD τ).loc b)) : sProp 𝕄 :=
  ((c : Thread nD τ).loc b) ↦{fullShare} f

/-- Before the body: that, and the two scratch buffers at whatever they hold. -/
def before (c : Dev nD) : sProp 𝕄 := iprop(start m c ∗ (∃ f, wholePts c cc0_scratch0 f) ∗ ∃ f, wholePts c cc0_scratch1 f)
/-- After it: the scratch buffers, and every semaphore of the exchange at zero. -/
def afterwards (c : Dev nD) : sProp 𝕄 :=
  iprop((∃ f, wholePts c cc0_scratch0 f) ∗ (∃ f, wholePts c cc0_scratch1 f)
    ∗ bigSep Finset.univ fun o : Option Leg => semVal (cell c o) 0)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => gAt m c
    | ⟨2, _⟩ => bAt m c
    | ⟨3, _⟩ => outAt m c
  Φ t := match t with
    | ⟨0, _⟩ => before m c
    | ⟨_ + 1, _⟩ => afterwards c
  q _ := fullShare
  owed t := match t with
    | ⟨0, _⟩ => owed c dues
    | ⟨_ + 1, _⟩ => 0

/-! ## Families written out -/

theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem legs (Φ : Option Leg → sProp 𝕄) : bigSep Finset.univ Φ
    = iprop(Φ none ∗ Φ (some (0, 0)) ∗ Φ (some (0, 1)) ∗ Φ (some (0, 2)) ∗ Φ (some (0, 3)) ∗ Φ (some (0, 4)) ∗ Φ (some (0, 5)) ∗ Φ (some (0, 6))
      ∗ Φ (some (1, 0)) ∗ Φ (some (1, 1)) ∗ Φ (some (1, 2)) ∗ Φ (some (1, 3)) ∗ Φ (some (1, 4)) ∗ Φ (some (1, 5)) ∗ Φ (some (1, 6))
      ∗ Φ (some (2, 0)) ∗ Φ (some (2, 1)) ∗ Φ (some (2, 2)) ∗ Φ (some (2, 3)) ∗ Φ (some (2, 4)) ∗ Φ (some (2, 5)) ∗ Φ (some (2, 6))) :=
  bigSep_univ_eq_bigSepL [none, some (0, 0), some (0, 1), some (0, 2), some (0, 3), some (0, 4), some (0, 5), some (0, 6),
    some (1, 0), some (1, 1), some (1, 2), some (1, 3), some (1, 4), some (1, 5), some (1, 6),
    some (2, 0), some (2, 1), some (2, 2), some (2, 3), some (2, 4), some (2, 5), some (2, 6)] (by decide) (by decide) Φ

/-! ## The devices the body computes -/

theorem ready0_dev (c : Dev nD) : (⟨k0_dev1 c, k0_dev1_lt c⟩ : Dev nD) = dn 0 c := Fin.ext (k0_dev1_eq c)
theorem ready1_dev (c : Dev nD) : (⟨k0_dev2 c, k0_dev2_lt c⟩ : Dev nD) = dn 1 c := Fin.ext (k0_dev2_eq c)
theorem ready2_dev (c : Dev nD) : (⟨k0_dev3 c, k0_dev3_lt c⟩ : Dev nD) = dn 2 c := Fin.ext (k0_dev3_eq c)
theorem ready3_dev (c : Dev nD) : (⟨k0_dev4 c, k0_dev4_lt c⟩ : Dev nD) = dn 3 c := Fin.ext (k0_dev4_eq c)
theorem ready4_dev (c : Dev nD) : (⟨k0_dev5 c, k0_dev5_lt c⟩ : Dev nD) = dn 4 c := Fin.ext (k0_dev5_eq c)
theorem ready5_dev (c : Dev nD) : (⟨k0_dev6 c, k0_dev6_lt c⟩ : Dev nD) = dn 5 c := Fin.ext (k0_dev6_eq c)
theorem ready6_dev (c : Dev nD) : (⟨k0_dev7 c, k0_dev7_lt c⟩ : Dev nD) = dn 6 c := Fin.ext (k0_dev7_eq c)
theorem copy0_dev (c : Dev nD) : (⟨k0_dev8 c, k0_dev8_lt c⟩ : Dev nD) = up 0 c := Fin.ext (k0_dev8_eq c)
theorem copy1_dev (c : Dev nD) : (⟨k0_dev9 c, k0_dev9_lt c⟩ : Dev nD) = up 1 c := Fin.ext (k0_dev9_eq c)
theorem copy2_dev (c : Dev nD) : (⟨k0_dev10 c, k0_dev10_lt c⟩ : Dev nD) = up 2 c := Fin.ext (k0_dev10_eq c)
theorem copy3_dev (c : Dev nD) : (⟨k0_dev11 c, k0_dev11_lt c⟩ : Dev nD) = up 3 c := Fin.ext (k0_dev11_eq c)
theorem copy4_dev (c : Dev nD) : (⟨k0_dev12 c, k0_dev12_lt c⟩ : Dev nD) = up 4 c := Fin.ext (k0_dev12_eq c)
theorem copy5_dev (c : Dev nD) : (⟨k0_dev13 c, k0_dev13_lt c⟩ : Dev nD) = up 5 c := Fin.ext (k0_dev13_eq c)
theorem copy6_dev (c : Dev nD) : (⟨k0_dev14 c, k0_dev14_lt c⟩ : Dev nD) = up 6 c := Fin.ext (k0_dev14_eq c)

/-! ## Loads and stores of whole buffers -/

theorem z1 : (![0] : Fin 1 → Nat) = fun _ => 0 := funext fun a => by fin_cases a; rfl
theorem z2 : (![0, 0] : Fin 2 → Nat) = fun _ => 0 := funext fun a => by fin_cases a <;> rfl
theorem z3 : (![0, 0, 0] : Fin 3 → Nat) = fun _ => 0 := funext fun a => by fin_cases a <;> rfl

theorem read_x (f : (cc0_stg0_0 : Ref sig .tc).ty.Contents (Elt F)) :
    (xM : Memref sig .tc .vmem S768x512 .f32).view.readAt (Elt F) (Rect.unit (s := S768x512) ![0, 0] S768x512.size inb_S768x512_S768x512_0_0).toLoadRect f = f :=
  Memref.readAt_unit_zero (Elt F) cc0_stg0_0 z2 _ f
theorem read_g (f : (cc0_stg1_0 : Ref sig .tc).ty.Contents (Elt F)) :
    (gM : Memref sig .tc .vmem S512 .f32).view.readAt (Elt F) (Rect.unit (s := S512) ![0] S512.size inb_S512_S512_0).toLoadRect f = f :=
  Memref.readAt_unit_zero (Elt F) cc0_stg1_0 z1 _ f
theorem read_b (f : (cc0_stg2_0 : Ref sig .tc).ty.Contents (Elt F)) :
    (bM : Memref sig .tc .vmem S512 .f32).view.readAt (Elt F) (Rect.unit (s := S512) ![0] S512.size inb_S512_S512_0).toLoadRect f = f :=
  Memref.readAt_unit_zero (Elt F) cc0_stg2_0 z1 _ f
theorem read_loc (f : (cc0_scratch0 : Ref sig .tc).ty.Contents (Elt F)) :
    (locM : Memref sig .tc .vmem S2x768 .f32).view.readAt (Elt F) (Rect.unit (s := S2x768) ![0, 0] S2x768.size inb_S2x768_S2x768_0_0).toLoadRect f = f :=
  Memref.readAt_unit_zero (Elt F) cc0_scratch0 z2 _ f
theorem read_comm (f : (cc0_scratch1 : Ref sig .tc).ty.Contents (Elt F)) :
    (commM : Memref sig .tc .vmem S7x2x768 .f32).view.readAt (Elt F) (Rect.unit (s := S7x2x768) ![0, 0, 0] S7x2x768.size inb_S7x2x768_S7x2x768_0_0_0).toLoadRect f = f :=
  Memref.readAt_unit_zero (Elt F) cc0_scratch1 z3 _ f
theorem write_loc (f w : (cc0_scratch0 : Ref sig .tc).ty.Contents (Elt F)) :
    ((locM : Memref sig .tc .vmem S2x768 .f32).access (Rect.unit (s := S2x768) ![0, 0] S2x768.size inb_S2x768_S2x768_0_0) : View sig .tc _ _ _).write (Elt F) f w Finset.univ = w :=
  Memref.write_access_unit_zero_univ (Elt F) cc0_scratch0 z2 _ f w
theorem write_out (f w : (cc0_stg3_0 : Ref sig .tc).ty.Contents (Elt F)) :
    ((oM : Memref sig .tc .vmem S768x512 .f32).access (Rect.unit (s := S768x512) ![0, 0] S768x512.size inb_S768x512_S768x512_0_0) : View sig .tc _ _ _).write (Elt F) f w Finset.univ = w :=
  Memref.write_access_unit_zero_univ (Elt F) cc0_stg3_0 z2 _ f w

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The partials' buffer shared among the seven copies, a share kept. -/
theorem loc_lend (c : Dev nD) (f : Buf (Elt F) ((c : Thread nD τ).loc cc0_scratch0)) :
    (wholePts c cc0_scratch0 f : sProp 𝕄) = iprop(locPts c (Transfers.shareDrop fullShare 7) f ∗ bigSep Finset.univ fun j : Fin 7 => locPts c (lent j) f) := by
  simp only [locPts_eq]
  exact BI.equiv_iff.mp ⟨(Transfers.pointsTo_toks fullShare 7).1, (Transfers.pointsTo_toks fullShare 7).2⟩

/-- The partials as the store leaves them. -/
theorem part_stored (c : Dev nD) :
    (((locM : Memref sig .tc .vmem S2x768 .f32).access (Rect.unit (s := S2x768) ![0, 0] S2x768.size inb_S2x768_S2x768_0_0) : View sig .tc _ _ _).loc (c : Thread nD τ)
      ↦{fullShare} k0_pay2 (xAt m c) : sProp 𝕄) ⊢ wholePts c cc0_scratch0 (part m c) := BI.Entails.refl _

/-! ## The run -/

def bodyPre (K : Names) (c : Dev nD) : sProp 𝕄 :=
  iprop((records m K ∗ linear c ∗ creds c dues ∗ levAts lvls lv ∗ (∃ f, wholePts c cc0_scratch0 f) ∗ ∃ f, wholePts c cc0_scratch1 f)
    ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(afterwards c ∗ (dats m 0 c).owesAt () t0_0.succ
    ∗ stg c cc0_stg0_0 (xAt m c) ∗ stg c cc0_stg1_0 (gAt m c) ∗ stg c cc0_stg2_0 (bAt m c) ∗ stg c cc0_stg3_0 (outAt m c))

/-- The body on its own buffers and semaphores. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    cc0_scratch2 cc0_scratch3 cc0_scratch4

set_option maxHeartbeats 1600000 in
/-- The body, from what a device starts with to what it leaves. -/
theorem body_run (K : Names) (c : Dev nD) (Kt : PUnit → sProp 𝕄) :
    iprop(bodyPre m K c ∗ (bodyPost m c -∗ Kt ⟨⟩)) ⊢ wpB c (theBody (F := F)) Kt := by
  unfold theBody
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semSignalHereWord, semWaitWord, Prog.lift, Prog.bind_op, Prog.bind_ret, Prog.pure_eq_ret, wp_deviceId]
  unfold bodyPre linear
  simp only [legs, creds, amt, peer]
  iintro ⟨⟨⟨#HR, ⟨⟨HaG, HaR0, HaR1, HaR2, HaR3, HaR4, HaR5, HaR6, HaS0, HaS1, HaS2, HaS3, HaS4, HaS5, HaS6, HaL0, HaL1, HaL2, HaL3, HaL4, HaL5, HaL6⟩, HtG, HtR0, HtR1, HtR2, HtR3, HtR4, HtR5, HtR6, HtS0, HtS1, HtS2, HtS3, HtS4, HtS5, HtS6, HtL0, HtL1, HtL2, HtL3, HtL4, HtL5, HtL6⟩,
    ⟨HcG, HcR0, HcR1, HcR2, HcR3, HcR4, HcR5, HcR6, HcL0, HcL1, HcL2, HcL3, HcL4, HcL5, HcL6, -⟩, #HL, ⟨%f0, Hloc⟩, ⟨%f1, Hcomm⟩⟩,
    Ho, ⟨%d0, %g0, %hg0, Hx⟩, ⟨%d1, %g1, %hg1, Hg⟩, ⟨%d2, %g2, %hg2, Hb⟩, ⟨%d3, %g3, %hg3, Hout⟩⟩, Hk⟩
  have hx : g0 = xAt m c := by rw [hg0]; unfold Dat.before; rw [if_pos (fetch0_0 t0_0)]; rfl
  have hg : g1 = gAt m c := by rw [hg1]; unfold Dat.before; rw [if_pos (fetch0_1 t0_0)]; rfl
  have hb : g2 = bAt m c := by rw [hg2]; unfold Dat.before; rw [if_pos (fetch0_2 t0_0)]; rfl
  subst hx hg hb
  unfold Dat.owesAt Pipeline.owesWithin
  icases Ho with ⟨%W, %hW, HO⟩
  rw [show (dats m 0 c).owed t0_0.castSucc = owed c dues from rfl]
  ihave HO := (show (owes (c : Thread nD τ) (owed c dues) W : sProp 𝕄) ⊢ debt c dues from by
    unfold debt; iintro H; iexists W; iexact H) $$ HO
  ihave Hslots := (Entails.of_eq ((slots_split c f1).trans (fin7 _))) $$ Hcomm
  icases Hslots with ⟨Hs0, Hs1, Hs2, Hs3, Hs4, Hs5, Hs6⟩
  -- the own gate
  iapply (signal_gate m K c readies0 _) $$ HR HO HtG; iintro HO
  iapply (wait_gate m K c readies0 _ (by decide)) $$ HR HL HO HcG HaG; iintro ⟨HO, HzG⟩
  -- the ready marks, each with a slot of the own receive buffer
  iapply (signal_ready m K c _ readies1 _ 0 (ready0_dev c) f1) $$ HR HO HtR0 Hs0; iintro HO
  iapply (signal_ready m K c _ readies2 _ 1 (ready1_dev c) f1) $$ HR HO HtR1 Hs1; iintro HO
  iapply (signal_ready m K c _ readies3 _ 2 (ready2_dev c) f1) $$ HR HO HtR2 Hs2; iintro HO
  iapply (signal_ready m K c _ readies4 _ 3 (ready3_dev c) f1) $$ HR HO HtR3 Hs3; iintro HO
  iapply (signal_ready m K c _ readies5 _ 4 (ready4_dev c) f1) $$ HR HO HtR4 Hs4; iintro HO
  iapply (signal_ready m K c _ readies6 _ 5 (ready5_dev c) f1) $$ HR HO HtR5 Hs5; iintro HO
  iapply (signal_ready m K c _ readies7 _ 6 (ready6_dev c) f1) $$ HR HO HtR6 Hs6; iintro HO
  -- the own partials
  iapply (wp_load 𝒱₀ (c : Thread nD τ) none Set.univ (m := xM) (Finset.subset_univ _)) $$ Hx; iintro Hx
  rw [read_x]
  iapply (wp_load 𝒱₀ (c : Thread nD τ) none Set.univ (m := locM) (Finset.subset_univ _)) $$ Hloc; iintro Hloc
  iapply (wp_store 𝒱₀ (c : Thread nD τ) none Set.univ (m := locM) (r := Rect.unit (s := S2x768) ![0, 0] S2x768.size inb_S2x768_S2x768_0_0) (Mk := Finset.univ) (Finset.subset_univ _)) $$ Hloc; iintro Hloc
  rw [write_loc]
  ihave Hloc := (part_stored m c) $$ Hloc
  ihave Hl := (Entails.of_eq ((loc_lend c (part m c)).trans (congrArg _ (fin7 _)))) $$ Hloc
  icases Hl with ⟨Hkept, Hl0, Hl1, Hl2, Hl3, Hl4, Hl5, Hl6⟩
  -- the copies, each behind the ready mark of the device it goes to
  iapply (wait_ready m K c lands0 _ 0 (by decide)) $$ HR HL HO HcR0 HaR0; iintro ⟨HO, Hd, HzR0⟩
  iapply (copy m K c _ lands1 _ 0 (copy0_dev c)) $$ HR Hl0 Hd HO HtS0 HtL0; iintro ⟨HcS0, HO⟩
  iapply (wait_ready m K c lands1 _ 1 (by decide)) $$ HR HL HO HcR1 HaR1; iintro ⟨HO, Hd, HzR1⟩
  iapply (copy m K c _ lands2 _ 1 (copy1_dev c)) $$ HR Hl1 Hd HO HtS1 HtL1; iintro ⟨HcS1, HO⟩
  iapply (wait_ready m K c lands2 _ 2 (by decide)) $$ HR HL HO HcR2 HaR2; iintro ⟨HO, Hd, HzR2⟩
  iapply (copy m K c _ lands3 _ 2 (copy2_dev c)) $$ HR Hl2 Hd HO HtS2 HtL2; iintro ⟨HcS2, HO⟩
  iapply (wait_ready m K c lands3 _ 3 (by decide)) $$ HR HL HO HcR3 HaR3; iintro ⟨HO, Hd, HzR3⟩
  iapply (copy m K c _ lands4 _ 3 (copy3_dev c)) $$ HR Hl3 Hd HO HtS3 HtL3; iintro ⟨HcS3, HO⟩
  iapply (wait_ready m K c lands4 _ 4 (by decide)) $$ HR HL HO HcR4 HaR4; iintro ⟨HO, Hd, HzR4⟩
  iapply (copy m K c _ lands5 _ 4 (copy4_dev c)) $$ HR Hl4 Hd HO HtS4 HtL4; iintro ⟨HcS4, HO⟩
  iapply (wait_ready m K c lands5 _ 5 (by decide)) $$ HR HL HO HcR5 HaR5; iintro ⟨HO, Hd, HzR5⟩
  iapply (copy m K c _ lands6 _ 5 (copy5_dev c)) $$ HR Hl5 Hd HO HtS5 HtL5; iintro ⟨HcS5, HO⟩
  iapply (wait_ready m K c lands6 _ 6 (by decide)) $$ HR HL HO HcR6 HaR6; iintro ⟨HO, Hd, HzR6⟩
  iapply (copy m K c _ lands7 _ 6 (copy6_dev c)) $$ HR Hl6 Hd HO HtS6 HtL6; iintro ⟨HcS6, HO⟩
  -- the landings
  iapply (wait_landed m K c _ 0 (slot_credit 0)) $$ HR HL HO HcL0 HaL0; iintro ⟨HO, Hs0, HzL0⟩
  iapply (wait_landed m K c _ 1 (slot_credit 1)) $$ HR HL HO HcL1 HaL1; iintro ⟨HO, Hs1, HzL1⟩
  iapply (wait_landed m K c _ 2 (slot_credit 2)) $$ HR HL HO HcL2 HaL2; iintro ⟨HO, Hs2, HzL2⟩
  iapply (wait_landed m K c _ 3 (slot_credit 3)) $$ HR HL HO HcL3 HaL3; iintro ⟨HO, Hs3, HzL3⟩
  iapply (wait_landed m K c _ 4 (slot_credit 4)) $$ HR HL HO HcL4 HaL4; iintro ⟨HO, Hs4, HzL4⟩
  iapply (wait_landed m K c _ 5 (slot_credit 5)) $$ HR HL HO HcL5 HaL5; iintro ⟨HO, Hs5, HzL5⟩
  iapply (wait_landed m K c _ 6 (slot_credit 6)) $$ HR HL HO HcL6 HaL6; iintro ⟨HO, Hs6, HzL6⟩
  ihave Hcomm := (Entails.of_eq ((slots_split c (filled m c)).trans (fin7 _)).symm) $$ [Hs0 Hs1 Hs2 Hs3 Hs4 Hs5 Hs6]
  · iframe
  -- the result
  ihave Hkept := (Entails.of_eq (locPts_eq c _ (part m c))) $$ Hkept
  iapply (wp_load 𝒱₀ (c : Thread nD τ) none Set.univ (m := locM) (Finset.subset_univ _)) $$ Hkept; iintro Hkept
  rw [read_loc]
  iapply (wp_load 𝒱₀ (c : Thread nD τ) none Set.univ (m := commM) (Finset.subset_univ _)) $$ Hcomm; iintro Hcomm
  rw [read_comm]
  iapply (wp_load 𝒱₀ (c : Thread nD τ) none Set.univ (m := gM) (Finset.subset_univ _)) $$ Hg; iintro Hg
  rw [read_g]
  iapply (wp_load 𝒱₀ (c : Thread nD τ) none Set.univ (m := bM) (Finset.subset_univ _)) $$ Hb; iintro Hb
  rw [read_b]
  iapply (wp_load 𝒱₀ (c : Thread nD τ) none Set.univ (m := oM) (Finset.subset_univ _)) $$ Hout; iintro Hout
  iapply (wp_store 𝒱₀ (c : Thread nD τ) none Set.univ (m := oM) (r := Rect.unit (s := S768x512) ![0, 0] S768x512.size inb_S768x512_S768x512_0_0) (Mk := Finset.univ) (Finset.subset_univ _)) $$ Hout; iintro Hout
  rw [write_out]
  -- the copies' sources
  iapply (wait_sent m K c _ 0 (by rfl)) $$ HR HL HO HcS0 HaS0; iintro ⟨HO, Hl0, HzS0⟩
  iapply (wait_sent m K c _ 1 (by rfl)) $$ HR HL HO HcS1 HaS1; iintro ⟨HO, Hl1, HzS1⟩
  iapply (wait_sent m K c _ 2 (by rfl)) $$ HR HL HO HcS2 HaS2; iintro ⟨HO, Hl2, HzS2⟩
  iapply (wait_sent m K c _ 3 (by rfl)) $$ HR HL HO HcS3 HaS3; iintro ⟨HO, Hl3, HzS3⟩
  iapply (wait_sent m K c _ 4 (by rfl)) $$ HR HL HO HcS4 HaS4; iintro ⟨HO, Hl4, HzS4⟩
  iapply (wait_sent m K c _ 5 (by rfl)) $$ HR HL HO HcS5 HaS5; iintro ⟨HO, Hl5, HzS5⟩
  iapply (wait_sent m K c _ 6 (by rfl)) $$ HR HL HO HcS6 HaS6; iintro ⟨HO, Hl6, HzS6⟩
  unfold wpB; rw [wp_ret]; imodintro
  iapply Hk
  unfold bodyPost afterwards Dat.owesAt Pipeline.owesWithin debt
  rw [show (dats m 0 c).owed t0_0.succ = 0 from rfl]
  simp only [legs]
  ihave Hkept := (Entails.of_eq (locPts_eq c _ (part m c)).symm) $$ Hkept
  ihave Hloc := (Entails.of_eq ((loc_lend c (part m c)).trans (congrArg _ (fin7 _))).symm) $$ [Hkept Hl0 Hl1 Hl2 Hl3 Hl4 Hl5 Hl6]
  · iframe
  icases HO with ⟨%W', HO⟩
  isplitr [HO Hx Hg Hb Hout]
  · isplitl [Hloc]; · iexists _; iexact Hloc
    isplitl [Hcomm]; · iexists _; iexact Hcomm
    iframe
  isplitl [HO]
  · iexists W'
    isplitr; · ipureintro; exact fun _ _ => Or.inl trivial
    iexact HO
  isplitl [Hx]; · (iexists _; isplitr; · (ipureintro; rfl)); iexact Hx
  isplitl [Hg]; · (iexists _; isplitr; · (ipureintro; rfl)); iexact Hg
  isplitl [Hb]; · (iexists _; isplitr; · (ipureintro; rfl)); iexact Hb
  iexists _; isplitr; · (ipureintro; rfl)
  iexact Hout

end Cert.LayerNorm
-- ==== Proof.Run.lean ====
/-
# The launch on the mesh

The eight devices' semaphores become the cells of the exchange under one update, the rights to pay them are dealt to
the devices that pay, and the launch theorem gives the run: it ends, each device's result array holds its result,
its arguments are as they were, every counter is at zero.
-/
module

public import proofs.«01_k».proof.Proof.Body
public import Idealize.ShloMosaic.Lib.Pipeline.CollectiveSegs
public import Idealize.ShloMosaic.Lib.Pipeline.Value

@[expose] public section

noncomputable section

namespace Cert.LayerNorm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

set_option maxRecDepth 4000 in
def bodyPre' (c : Dev nD) : sProp 𝕄 :=
  iprop(before m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre' m c ⊢ wpB c (theBody (F := F)) (fun _ => bodyPost m c)
  unfold bodyPre' before start ghost
  iintro ⟨⟨⟨⟨%K, HR, Hlin⟩, Hcr, Hlev⟩, H0, H1⟩, Ho, Hx, Hg, Hb, Hout⟩
  iapply (body_run m K c fun _ => bodyPost m c)
  unfold bodyPre
  isplitr []
  · isplitl [HR Hlin Hcr Hlev H0 H1]
    · iframe
    iframe
  · iintro H; iexact H

/-! ## The cells -/

theorem ownSemFacts : Pipeline.OwnSemFacts cfg0.spec legSem := by decide

theorem share_eq (c : Dev nD) (w : Fin cfg0.W) : (dats m 0 c).share w = fullShare := by unfold Dat.share; split <;> rfl

theorem cellAt_injective : Function.Injective cellAt := by
  rintro ⟨c, o⟩ ⟨c', o'⟩ h
  have h1 : c = c' := congrArg (fun g : GSem nD τ sig => g.1.1) h
  have h2 : o = o' := semOf_inj (congrArg Prod.snd h)
  rw [h1, h2]

def allCells : Finset (GSem nD τ sig) := Finset.univ.map ⟨cellAt, cellAt_injective⟩

/-- The right to pay a cell, as minted. -/
abbrev tokAt (co : Dev nD × Option Leg) : GSem nD τ sig × ℕ × Unit := (cellAt co, 0, ())
theorem tokAt_injective : Function.Injective tokAt := fun _ _ h => cellAt_injective (congrArg Prod.fst h)
def allToks : Finset (GSem nD τ sig × ℕ × Unit) := Finset.univ.map ⟨tokAt, tokAt_injective⟩

def u₀ : UU := (initOf (Pipeline.cells cfgs cellOf_inj) (Pipeline.launchToks cfgs cellOf_inj), initOf allCells allToks)

/-- What the launch element deals a device: the state of its cells, its positions, that they stand at their round, and the
    rights to pay its own cells (which go to others). -/
def dealt (c : Dev nD) : sProp 𝕄 :=
  iprop((bigSep Finset.univ fun o : Option Leg => roundState EX (sched m) (cell c o) 0)
    ∗ (bigSep Finset.univ fun o : Option Leg => atPos EX (cell c o) 0 ∅ 0)
    ∗ (bigSep Finset.univ fun o : Option Leg => reached EX (cell c o) 0)
    ∗ bigSep Finset.univ fun o : Option Leg => dutyTok EX (cell c o) 0 ())

theorem fund_exchange : BI.own (EX (initOf allCells allToks)) ⊢ (|==> bigSep Finset.univ (dealt m) : sProp 𝕄) := by
  have hC (Φ : GSem nD τ sig → sProp 𝕄) : bigSep allCells Φ = bigSep Finset.univ fun c : Dev nD => bigSep Finset.univ fun o : Option Leg => Φ (cell c o) := by
    unfold allCells; rw [bigSep_map, bigSep_univ_prod]; rfl
  have hT : bigSep allToks (fun x => (dutyTok EX x.1 x.2.1 x.2.2 : sProp 𝕄))
      = bigSep Finset.univ fun c : Dev nD => bigSep Finset.univ fun o : Option Leg => dutyTok EX (cell c o) 0 () := by
    unfold allToks; rw [bigSep_map, bigSep_univ_prod]; rfl
  iintro HX
  imod (Rounds.fund EX (sched m) allCells allToks) $$ HX with ⟨Hst, Hr, Hat, Htok⟩
  imodintro
  ihave Hst' := (Entails.of_eq (hC fun g => roundState EX (sched m) g 0)) $$ Hst
  ihave Hat' := (Entails.of_eq (hC fun g => atPos EX g 0 ∅ 0)) $$ Hat
  ihave Hr' := (Entails.of_eq (hC fun g => reached EX g 0)) $$ Hr
  ihave Htok' := (Entails.of_eq hT) $$ Htok
  unfold dealt; simp only [bigSep_sep']
  isplitl [Hst']; · iexact Hst'
  isplitl [Hat']; · iexact Hat'
  isplitl [Hr']; · iexact Hr'
  iexact Htok'

theorem unscoped_eq (c : Dev nD) : (unscopedSems0 c : sProp 𝕄) = semVal (cell c none) 0 := by
  unfold unscopedSems0; rw [bigSep_eq_bigSepL_of_eq [SemLoc.reg gateS] (by decide) (by decide)]; rfl

/-- The launch's scoped semaphores of the exchange and its one unscoped semaphore are the exchange's. -/
theorem sems_eq (c : Dev nD) :
    (bigSep Finset.univ fun o : Option Leg => semVal (cell c o) 0 : sProp 𝕄)
      = iprop(unscopedSems0 c ∗ Pipeline.ownSems0 (Ix := Unit) (Name := ℕ) (U := UU) (Lvl := ℕ) (Val := Elt F) (τ := τ) legSem c) := by
  have h : (Finset.univ : Finset (Option Leg)).erase none = Finset.univ.map ⟨some, Option.some_injective _⟩ := by decide
  rw [bigSep_univ_at _ none, unscoped_eq, h, bigSep_map]
  rfl

theorem core_alloc (c : Dev nD) :
    iprop(Pipeline.ownSems0 (Ix := Unit) (Name := ℕ) (U := UU) (Lvl := ℕ) (Val := Elt F) (τ := τ) legSem c ∗ unscopedSems0 c ∗ dealt m c)
      ⊢ |={Set.univ}=> iprop((bigSep Finset.univ fun o : Option Leg => iprop(∃ κ : ℕ, cellInv EX (sched m) κ (cell c o)))
          ∗ (bigSep Finset.univ fun o : Option Leg => atPos EX (cell c o) 0 ∅ 0)
          ∗ (bigSep Finset.univ fun o : Option Leg => reached EX (cell c o) 0)
          ∗ bigSep Finset.univ fun o : Option Leg => dutyTok EX (cell c o) 0 ()) := by
  unfold dealt
  iintro ⟨Hos, Hus, Hst, Hrest⟩
  ihave Hv := (Entails.of_eq (sems_eq (F := F) c).symm) $$ [Hos Hus]
  · isplitl [Hus] <;> iassumption
  imod (show iprop((bigSep Finset.univ fun o : Option Leg => semVal (cell c o) 0) ∗ bigSep Finset.univ fun o : Option Leg => roundState EX (sched m) (cell c o) 0)
      ⊢ (|={Set.univ}=> bigSep Finset.univ fun o : Option Leg => iprop(∃ κ : ℕ, cellInv EX (sched m) κ (cell c o)) : sProp 𝕄) from by
        rw [← bigSep_sep']
        exact (bigSep_mono fun o _ => (Rounds.body_intro EX (sched m) (cell c o)).trans inv_alloc).trans (bigSep_fupd _ _)) $$ [Hv Hst] with Hinv
  · isplitl [Hv] <;> iassumption
  imodintro
  isplitl [Hinv]; · iexact Hinv
  iexact Hrest

/-- For each name, the device that pays a device's cell of that name. -/
def around (o : Option Leg) : Dev nD ≃ Dev nD := ⟨fun c => peer c o, fun c => payer c o, payer_peer o, peer_payer o⟩

/-- The rights to pay, dealt to the devices that pay. -/
theorem toks_dealt :
    (bigSep Finset.univ fun c : Dev nD => bigSep Finset.univ fun o : Option Leg => (dutyTok EX (cell c o) 0 () : sProp 𝕄))
      = bigSep Finset.univ fun c : Dev nD => bigSep Finset.univ fun o : Option Leg => dutyTok EX (cell (peer c o) o) 0 () := by
  rw [bigSep_univ_comm, bigSep_univ_comm (fun (c : Dev nD) (o : Option Leg) => (dutyTok EX (cell (peer c o) o) 0 () : sProp 𝕄))]
  exact bigSep_congr fun o _ => bigSep_univ_equiv (around o) fun c : Dev nD => (dutyTok EX (cell c o) 0 () : sProp 𝕄)

/-- A persistent fact goes to every member of a family. -/
theorem share_fact {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Names) (c : Dev nD) : iprop(records m K ∗ linear c) ⊢ ghost m c := by
  unfold ghost; iintro H; iexists K; iexact H

theorem regroup :
    (bigSep Finset.univ fun c : Dev nD => iprop((bigSep Finset.univ fun o : Option Leg => iprop(∃ κ : ℕ, cellInv EX (sched m) κ (cell c o)))
          ∗ (bigSep Finset.univ fun o : Option Leg => atPos EX (cell c o) 0 ∅ 0)
          ∗ (bigSep Finset.univ fun o : Option Leg => reached EX (cell c o) 0)
          ∗ bigSep Finset.univ fun o : Option Leg => dutyTok EX (cell c o) 0 ()) : sProp 𝕄)
      ⊢ bigSep Finset.univ (ghost m) := by
  rw [bigSep_sep', bigSep_sep', bigSep_sep', ← bigSep_univ_prod (fun co : Dev nD × Option Leg => iprop(∃ κ : ℕ, cellInv EX (sched m) κ (cellAt co))),
    ← bigSep_univ_prod (fun co : Dev nD × Option Leg => (reached EX (cellAt co) 0 : sProp 𝕄)), toks_dealt]
  iintro ⟨HI, Hat, #HR, Htok⟩
  ihave HK := (BI.bigSep_exists_pi Finset.univ (fun (co : Dev nD × Option Leg) (κ : ℕ) => (cellInv EX (sched m) κ (cellAt co) : sProp 𝕄))) $$ HI
  icases HK with ⟨%K, #HI⟩
  iapply (share_fact (R := records m K) fun c _ => ghost_intro m K c)
  isplitr
  · unfold records; isplitl; · iexact HI
    iexact HR
  · unfold linear; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) legSem c ∗ unscopedSems0 c ∗ dealt m c) : sProp 𝕄)
    ⊢ |={Set.univ}=> bigSep Finset.univ (ghost m) :=
  ((bigSep_mono fun c _ => core_alloc m c).trans (bigSep_fupd _ _)).trans (BI.fupd_mono (regroup m))

/-- The credit the launch gives a device: for each of its cells, what the payer owes. -/
theorem launch_creds (c : Dev nD) : ∀ l : List (Option Leg), (Pipeline.launchCred (fun d => owed d l) c : sProp 𝕄) ⊢ creds c l
  | [] => by unfold creds; iintro -; iempintro
  | o :: l => by
    show (Pipeline.launchCred (fun d => owed d l + tallyAt (cell (peer d o) o) () (amt o)) c : sProp 𝕄) ⊢ _
    rw [Pipeline.launchCred_add]
    unfold creds
    iintro ⟨H1, H2⟩
    isplitl [H2]
    · iapply (Pipeline.launchCred_tallyAt (semOf o) (fun d => peer d o) (fun d => payer d o) (peer_payer o) (payer_peer o) () (amt o) c); iexact H2
    · iapply (launch_creds c l); iexact H1

/-! ## The launch's side conditions -/

theorem start_intro (c : Dev nD) :
    iprop(Pipeline.unscopedRestP Pipeline.Prefetch.none cfg0.spec c (fun b => m ((c : Thread nD τ).loc b)) ∗ levAts lvls lv
        ∗ Pipeline.launchCred (fun d => owed d dues) c ∗ prngReg c (ρ c) ∗ ghost m c)
      ⊢ |={Set.univ}=> iprop(start m c ∗ emp) := by
  iintro ⟨-, Hlev, Hcr, -, HG⟩
  ihave Hc := (launch_creds (F := F) c dues) $$ Hcr
  imodintro
  unfold start
  isplitl
  · iframe
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, H0, H1⟩
  isplitl [Hs]; · iexact Hs
  isplitl [H0]; · iexact H0
  iexact H1

theorem leave (c : Dev nD) :
    (dats m 0 c).Φ (Fin.last cfg0.N) ⊢ iprop(unscopedSems0 c ∗ Pipeline.ownSems0 legSem c ∗ Pipeline.scopedRest cfg0.spec c) := by
  rw [show (dats m 0 c).Φ (Fin.last cfg0.N) = afterwards c from rfl, scopedRest0_eq]
  unfold afterwards
  rw [sems_eq]
  iintro ⟨H0, H1, Hu, Ho⟩
  isplitl [Hu]; · iexact Hu
  isplitl [Ho]; · iexact Ho
  isplitl [H0]; · iexact H0
  iexact H1

theorem waits (c : Dev nD) : (levAts lvls lv : sProp 𝕄) ⊢ Pipeline.cellsWaits cfgs (dats m) () 0 c :=
  Pipeline.cellsWaits_intro cfgs (dats m) () 0 c fun w s t => by
    have hq : (((cfg0.win w).sem s : DmaSem sig)).val < 4 := by revert w s; decide
    rcases t with ⟨_ | _, ht⟩
    · exact mayWait_below c _ dues 0 (le_of_eq (lv_staging c _ hq)) (by decide)
    · exact mayWait_below c _ [] 0 (le_of_eq (lv_staging c _ hq)) (by decide)

/-! ## The run -/

/-- The memory at the start: arbitrary contents, every counter at zero. -/
def s₀ : MemSt nD τ sig (Elt F) := ⟨m, fun _ => 0, ρ⟩

def finalAt (c : Dev nD) (w : Fin cfg0.W) : Buf (Elt F) ((cfg0.win w).arr.view.loc (c : Thread nD τ)) := (dats m 0 c).arrAt w cfg0.N

set_option maxRecDepth 8000 in
/-- The run over any floats: it ends, and at the end every window's array holds its final contents and every counter is zero. -/
theorem run_windows : θ_run defs (onTc (τ := τ) (main (F := F))) (s₀ m ρ)
    (fun r => (∀ (c : Dev nD) (w : Fin cfg0.W), r.2.mem ((cfg0.win w).arr.view.loc (c : Thread nD τ)) = finalAt m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := fun d => owed d dues) (howed₀ := fun _ => rfl) (howedN := fun _ => rfl)
    (L := lvls) (lv := lv) (hL := lvls_of_ne) (hwaits := waits m)
    (G := dealt m) (G' := ghost m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays are as they were. -/
theorem final_arg (c : Dev nD) :
    finalAt m c (0 : Fin 4) = m ((c : Thread nD τ).loc main_arg0) ∧ finalAt m c (1 : Fin 4) = m ((c : Thread nD τ).loc main_arg1)
      ∧ finalAt m c (2 : Fin 4) = m ((c : Thread nD τ).loc main_arg2) :=
  ⟨(dats m 0 c).arrAt_in (0 : Fin 4) rfl _, (dats m 0 c).arrAt_in (1 : Fin 4) rfl _, (dats m 0 c).arrAt_in (2 : Fin 4) rfl _⟩

/-! ## Blocks that are whole arrays -/

theorem emb_x (y : S768x512.Idx) : (win0_0.blk (0 : Fin 1)).view.emb y = y :=
  funext fun a => Fin.ext ((win0_0.rect_emb_val_off (0 : Fin 1) y a).trans (by show 0 * _ + _ = _; rw [Nat.zero_mul, Nat.zero_add]))
theorem emb_g (y : S512.Idx) : (win0_1.blk (0 : Fin 1)).view.emb y = y :=
  funext fun a => Fin.ext ((win0_1.rect_emb_val_off (0 : Fin 1) y a).trans (by show 0 * _ + _ = _; rw [Nat.zero_mul, Nat.zero_add]))
theorem emb_b (y : S512.Idx) : (win0_2.blk (0 : Fin 1)).view.emb y = y :=
  funext fun a => Fin.ext ((win0_2.rect_emb_val_off (0 : Fin 1) y a).trans (by show 0 * _ + _ = _; rw [Nat.zero_mul, Nat.zero_add]))
theorem emb_out (y : S768x512.Idx) : (win0_3.blk (0 : Fin 1)).view.emb y = y :=
  funext fun a => Fin.ext ((win0_3.rect_emb_val_off (0 : Fin 1) y a).trans (by show 0 * _ + _ = _; rw [Nat.zero_mul, Nat.zero_add]))

theorem xAt_eq (c : Dev nD) : xAt m c = m ((c : Thread nD τ).loc main_arg0) := by
  funext y; unfold xAt; rw [View.read_apply, emb_x]; rfl
theorem gAt_eq (c : Dev nD) : gAt m c = m ((c : Thread nD τ).loc main_arg1) := by
  funext y; unfold gAt; rw [View.read_apply, emb_g]; rfl
theorem bAt_eq (c : Dev nD) : bAt m c = m ((c : Thread nD τ).loc main_arg2) := by
  funext y; unfold bAt; rw [View.read_apply, emb_b]; rfl

theorem flushed_out (c : Dev nD) (t : Fin cfg0.N) :
    (dats m 0 c).flushed (3 : Fin 4) t = ((cfg0.win (3 : Fin 4)).blk t).view.read (Elt F) (outAt m c) := by
  obtain rfl := fin_N0 t
  funext y
  refine Eq.trans (b := outAt m c y) rfl ?_
  rw [View.read_apply]
  exact congrArg (outAt m c) (emb_out y).symm

/-- The result's array ends at the device's result. -/
theorem final_out (c : Dev nD) : finalAt m c (3 : Fin 4) = outAt m c :=
  (dats m 0 c).arrAt_eq_of_cover (3 : Fin 4) (outAt m c) (fun t _ => flushed_out m c t)
    fun i => ⟨(0 : Fin 1), flush0_3 _, by rw [← emb_out i]; exact View.emb_mem_set _ _⟩

/-- The run, read at the result and the arguments. -/
theorem run_main : θ_run defs (onTc (τ := τ) (main (F := F))) (s₀ m ρ)
    (fun r => (∀ c : Dev nD, r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) :=
  (θ_run defs _ _).mono (fun _ h => ⟨fun c =>
    ⟨(h.1 c (3 : Fin 4)).trans (final_out m c), (h.1 c (0 : Fin 4)).trans (final_arg m c).1,
      (h.1 c (1 : Fin 4)).trans (final_arg m c).2.1, (h.1 c (2 : Fin 4)).trans (final_arg m c).2.2⟩, h.2⟩) (run_windows m ρ)

/-- And at the arguments alone. -/
theorem run_frame : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) :=
  (θ_run defs _ _).mono (fun _ h => ⟨fun c => (h.1 c).2, h.2⟩) (run_main m ρ)

end Cert.LayerNorm
-- ==== Proof.Frames.lean ====
/-
# The frames

The kernel's two printings have one text, so the run proved over any floats serves both; the reference's run is the
generated one, and its machine has no semaphore at all.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.LayerNorm

open Idealize.ShloMosaic Idealize.ShloMosaic.TcCoe Idealize.SL.Sem

set_option maxRecDepth 8000 in
/-- The two printings' tables of bodies agree row by row, -/
theorem rows_eq : Cert.Kernel.defs₀ (F := Bits) = Cert.KernelIdeal.defs₀ (F := Bits) := by
  unfold Cert.Kernel.defs₀ Cert.KernelIdeal.defs₀
  refine congrArg Defs.onTc (funext fun n => funext fun a => ?_)
  match n, a with
  | 0, (t, s) => rfl
  | ⟨k + 1, h⟩, _ => exact absurd h (Nat.not_lt.2 (Nat.le_add_left _ _))

set_option maxRecDepth 8000 in
/-- so their whole tables agree. -/
theorem tables_eq : Cert.Kernel.defs (F := Bits) = Cert.KernelIdeal.defs (F := Bits) := by
  unfold Cert.Kernel.defs Cert.KernelIdeal.defs
  rw [rows_eq]; rfl

set_option maxRecDepth 8000 in
theorem frame_kernel : Cert.quiescent_Kernel := fun m ρ _ => by
  rw [tables_eq]; exact run_frame (F := Bits) m ρ

theorem frame_ideal : Cert.quiescent_KernelIdeal := fun m ρ _ => run_frame (F := Ideal) m ρ

theorem no_semaphores (s : GSem Cert.ReferenceIdeal.nD Cert.ReferenceIdeal.τ Cert.ReferenceIdeal.sig) : False := by
  rcases s with ⟨_, q | q⟩ <;> exact q.elim0

theorem frame_reference : Cert.quiescent_ReferenceIdeal := fun m ρ _ =>
  (θ_run Cert.ReferenceIdeal.defs _ _).mono (fun _ h => ⟨fun c => (h c).2, funext fun s => (no_semaphores s).elim⟩)
    (Cert.ReferenceIdeal.Value.run m ρ)

end Cert.LayerNorm
-- ==== Proof.Maths.lean ====
/-
# The arithmetic of one row

A row of finite entries: the mean of the squares less the square of the mean is the mean of the squared deviations, which
is not negative; so with a positive word added, multiplying by the reciprocal square root is dividing by the square root,
whatever extended reals the scale and the shift are. And a sum over 4096 columns is a sum over eight blocks of 512.
-/
module

public import Idealize.ShloMosaic.PureOps.Ideal.Laws
public import Mathlib.Algebra.BigOperators.Fin
public import Mathlib.Tactic.Ring
public import Mathlib.Tactic.FieldSimp
public import Mathlib.Tactic.Positivity

@[expose] public section

noncomputable section

namespace Cert.LayerNorm

open Idealize.ShloMosaic

/-- The word the sums are divided by. -/
theorem word_columns : Ideal.ofBits .f32 0x45800000#32 = ((4096 : ℝ) : EReal) := by
  simp only [Ideal.ofBits, Ideal.ieee]
  simp
  rw [← EReal.coe_mul]; norm_num

/-- The word added to the variance is a positive real. -/
theorem word_guard : ∃ e : ℝ, 0 < e ∧ Ideal.ofBits .f32 0x3727C5AC#32 = (e : EReal) := by
  refine ⟨10995116 * (1099511627776 : ℝ)⁻¹, by norm_num, ?_⟩
  simp [Ideal.ofBits, Ideal.ieee]
  norm_num

/-- The word that bounds the finite entries. -/
theorem word_infinity : Ideal.ofBits .f32 0x7F800000#32 = ⊤ := by
  simp [Ideal.ofBits, Ideal.ieee]

/-- A sum of reals, read as extended reals. -/
theorem coe_total {ι : Type} (s : Finset ι) (y : ι → ℝ) : ∑ k ∈ s, (y k : EReal) = ((∑ k ∈ s, y k : ℝ) : EReal) := by
  classical
  induction s using Finset.induction_on with
  | empty => simp
  | insert a s h ih => rw [Finset.sum_insert h, Finset.sum_insert h, ih, EReal.coe_add]

/-- The mean of the squared deviations from the mean. -/
theorem spread (y : Fin 4096 → ℝ) :
    (∑ k, y k * y k) * (1 / 4096) - (∑ k, y k) * (1 / 4096) * ((∑ k, y k) * (1 / 4096))
      = (∑ k, (y k - (∑ j, y j) * (1 / 4096)) * (y k - (∑ j, y j) * (1 / 4096))) * (1 / 4096) := by
  generalize hμ : (∑ j, y j) * (1 / 4096) = μ
  have hs : ∑ j, y j = 4096 * μ := by rw [← hμ]; ring
  have h (k : Fin 4096) : (y k - μ) * (y k - μ) = y k * y k - 2 * μ * y k + μ * μ := by ring
  simp only [h]
  rw [Finset.sum_add_distrib, Finset.sum_sub_distrib, ← Finset.mul_sum, hs, Finset.sum_const, Finset.card_univ, Fintype.card_fin]
  simp only [nsmul_eq_mul, Nat.cast_ofNat]
  ring

theorem spread_nonneg (y : Fin 4096 → ℝ) (μ : ℝ) : 0 ≤ (∑ k, (y k - μ) * (y k - μ)) * (1 / 4096) :=
  mul_nonneg (Finset.sum_nonneg fun k _ => mul_self_nonneg _) (by norm_num)

/-- The kernel's normalisation of an entry, from the row's sum and sum of squares, -/
def normByMoments (x s q n e g b : EReal) : EReal :=
  (x - Ideal.div s n) * Ideal.rsqrt (Ideal.div q n - Ideal.div s n * Ideal.div s n + e) * g + b

/-- and the plain one, from the row's mean and its squared deviations' sum. -/
def normByDeviations (x μ d n e g b : EReal) : EReal :=
  Ideal.div (g * (x - μ)) (Ideal.sqrt (Ideal.div d n + e)) + b

/-- They agree on a row of finite entries. -/
theorem row_law (y : Fin 4096 → ℝ) (l : Fin 4096) (g b : EReal) (e : ℝ) (he : 0 < e) :
    normByMoments (y l) (∑ k, (y k : EReal)) (∑ k, (y k : EReal) * (y k : EReal)) (4096 : ℝ) e g b
      = normByDeviations (y l) (Ideal.div (∑ k, (y k : EReal)) (4096 : ℝ))
          (∑ k, ((y k : EReal) - Ideal.div (∑ k, (y k : EReal)) (4096 : ℝ)) * ((y k : EReal) - Ideal.div (∑ k, (y k : EReal)) (4096 : ℝ)))
          (4096 : ℝ) e g b := by
  have hn : (4096 : ℝ) ≠ 0 := by norm_num
  unfold normByMoments normByDeviations
  simp only [Ideal.div_coe hn, coe_total, ← EReal.coe_mul, ← EReal.coe_sub, ← EReal.coe_add]
  rw [spread]
  have hv := spread_nonneg y ((∑ j, y j) * (1 / 4096))
  revert hv
  generalize (∑ k, (y k - (∑ j, y j) * (1 / 4096)) * (y k - (∑ j, y j) * (1 / 4096))) * (1 / 4096) = v
  intro hv
  have hp : 0 < v + e := by positivity
  have hr : Real.sqrt (v + e) ≠ 0 := (Real.sqrt_pos.mpr hp).ne'
  rw [Ideal.rsqrt_coe, Ideal.sqrt_coe, if_neg (not_lt.mpr hp.le), if_neg hp.ne', if_neg (not_lt.mpr hp.le), Ideal.div_coe hr,
    mul_right_comm, mul_comm _ g, one_div (Real.sqrt _)]

/-- Eight blocks of 512 columns are the 4096. -/
theorem sum_blocks (h : Fin 4096 → EReal) :
    ∑ d : Fin 8, ∑ k : Fin 512, h ⟨d.val * 512 + k.val, by omega⟩ = ∑ K : Fin 4096, h K := by
  rw [← Fintype.sum_prod_type' (f := fun (d : Fin 8) (k : Fin 512) => h ⟨d.val * 512 + k.val, by omega⟩)]
  refine Fintype.sum_equiv (finProdFinEquiv (m := 8) (n := 512)) _ _ fun p => congrArg h (Fin.ext ?_)
  show p.1.val * 512 + p.2.val = p.2.val + 512 * p.1.val
  omega

end Cert.LayerNorm
-- ==== Proof.Reference.lean ====
/-
# The reference's result

The result of the reference's run, read at an index: each entry less its row's mean, scaled, divided by the square root
of the row's mean squared deviation with the guard added, and shifted.
-/
module

public import proofs.«01_k».proof.Proof.Gen.ReferenceIdeal.Run
public import proofs.«01_k».proof.Proof.Maths
public import Idealize.ShloMosaic.Lib.Pointwise

@[expose] public section

noncomputable section

namespace Cert.LayerNorm.Ref

open Idealize.ShloMosaic Idealize.ShloMosaic.TcCoe Idealize.SL.Sem
open Cert.ReferenceIdeal Cert.ReferenceIdeal.Gen

/-- A number per row, written along the rows. -/
abbrev alongRows (v : FVec Ideal S768x1 .f32) : FVec Ideal S768x4096 .f32 := broadcastInDim S768x4096 ![0, 1] bcast_S768x1_S768x4096_0_1 v
/-- A number per column, written down the columns. -/
abbrev downColumns (v : FVec Ideal S4096 .f32) : FVec Ideal S768x4096 .f32 :=
  broadcastInDim S768x4096 ![0, 1] bcast_S1x4096_S768x4096_0_1 (broadcastInDim S1x4096 ![1] bcast_S4096_S1x4096_1 v)
/-- The rows' sums. -/
abbrev rowSums (x : FVec Ideal S768x4096 .f32) : FVec Ideal S768x1 .f32 :=
  broadcastInDim S768x1 ![0] bcast_S768_S768x1_0 (Host.reduceAdd x (constant S_ .f32 0x00000000#32) reducesTo_S768x4096_S768_d1 h_S_)
/-- One number for every row. -/
abbrev everyRow {α : Type} (v : S_.Idx → α) : S768x1.Idx → α := broadcastInDim S768x1 ![] bcast_S_S768x1 v
/-- The number of columns, as the variance divides by it. -/
abbrev columns : FVec Ideal S_ .f32 := subf (constant S_ .f32 0x45800000#32) (sitofp .f32 (constantI S_ 32 0#32))
/-- The deviations from the rows' means. -/
abbrev deviations (x : FVec Ideal S768x4096 .f32) : FVec Ideal S768x4096 .f32 :=
  subf x (alongRows (Host.divf (rowSums x) (everyRow (constant S_ .f32 0x45800000#32))))
/-- The rows' variances. -/
abbrev variances (x : FVec Ideal S768x4096 .f32) : FVec Ideal S768x1 .f32 :=
  select (everyRow (cmpf .ogt columns (constant S_ .f32 0x00000000#32)))
    (Host.divf (rowSums (mulf (deviations x) (deviations x))) (everyRow columns)) (everyRow (id (constant S_ .f32 0x7FC00000#32)))

/-- The result. -/
def result (x : FVec Ideal S768x4096 .f32) (g b : FVec Ideal S4096 .f32) : FVec Ideal S768x4096 .f32 :=
  addf (Host.divf (mulf (downColumns g) (deviations x))
    (alongRows (Host.sqrt (addf (variances x) (everyRow (constant S_ .f32 0x3727C5AC#32)))))) (downColumns b)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
          = result (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  Cert.ReferenceIdeal.Value.run m ρ

/-- The correction subtracted from the number of columns is zero. -/
theorem no_correction : (FloatOps.sitofp .f32 (0#32) : Ideal .f32) = (0 : EReal) := by
  show ((((0#32 : BitVec 32).toInt : ℤ) : ℝ) : EReal) = 0
  simp

/-- The result at an index. -/
theorem result_apply (x : FVec Ideal S768x4096 .f32) (g b : FVec Ideal S4096 .f32) (r : Fin 768) (l : Fin 4096) :
    result x g b (ix2 r l) = normByDeviations (x (ix2 r l)) (Ideal.div (∑ k : Fin 4096, x (ix2 r k)) (4096 : ℝ))
      (∑ k : Fin 4096, (x (ix2 r k) - Ideal.div (∑ k : Fin 4096, x (ix2 r k)) (4096 : ℝ)) * (x (ix2 r k) - Ideal.div (∑ k : Fin 4096, x (ix2 r k)) (4096 : ℝ)))
      (4096 : ℝ) (Ideal.ofBits .f32 0x3727C5AC#32) (g (ix1 l)) (b (ix1 l)) := by
  have h0 : (0 : EReal) < ((4096 : ℝ) : EReal) := by exact_mod_cast (by norm_num : (0 : ℝ) < 4096)
  unfold normByDeviations
  pointwise [result, Host.sqrt]
  rw [no_correction, word_columns, sub_zero, if_pos h0]

end Cert.LayerNorm.Ref
-- ==== Proof.Value.lean ====
/-
# The kernel's result is the reference's

Read at an index, a device's result is the moments' form over the row's sum and sum of squares across the mesh; the
devices' columns are the row's; so on finite entries it is the reference's result at the device's columns.
-/
module

public import proofs.«01_k».proof.Defs
public import proofs.«01_k».proof.Proof.Run
public import proofs.«01_k».proof.Proof.Reference
public import Idealize.ShloMosaic.Lib.LayoutAt

@[expose] public section

noncomputable section

namespace Cert.LayerNorm

open Cert.KernelIdeal Cert.KernelIdeal.Gen
open Idealize.ShloMosaic Idealize.ShloMosaic.TcCoe Idealize.SL.Sem

/-! ## A device's partials and result at an index -/

theorem sums_apply (x : FVec Ideal S768x512 .f32) (r : Fin 768) : k0_pay2 (F := Ideal) x (ix2 (0 : Fin 2) r) = ∑ k : Fin 512, x (ix2 r k) := by
  pointwise [k0_pay2, k0_pay1]
theorem squares_apply (x : FVec Ideal S768x512 .f32) (r : Fin 768) :
    k0_pay2 (F := Ideal) x (ix2 (1 : Fin 2) r) = ∑ k : Fin 512, x (ix2 r k) * x (ix2 r k) := by
  pointwise [k0_pay2, k0_pay1]

theorem payload_apply (x : FVec Ideal S768x512 .f32) (p : FVec Ideal S2x768 .f32) (q : FVec Ideal S7x2x768 .f32) (g b : FVec Ideal S512 .f32)
    (r : Fin 768) (l : Fin 512) :
    k0_pay3 (F := Ideal) (k0_pay1 x) p q g b (ix2 r l)
      = normByMoments (x (ix2 r l)) (p (ix2 (0 : Fin 2) r) + ∑ j : Fin 7, q (ix3 j (0 : Fin 2) r)) (p (ix2 (1 : Fin 2) r) + ∑ j : Fin 7, q (ix3 j (1 : Fin 2) r))
        (4096 : ℝ) (Ideal.ofBits .f32 0x3727C5AC#32) (g (ix1 l)) (b (ix1 l)) := by
  unfold normByMoments
  rw [← word_columns]
  pointwise [k0_pay3, k0_pay1]

/-! ## The sums across the mesh -/

/-- A device's own term and the seven it receives are the mesh's. -/
theorem mesh_total (c : Dev nD) (p : Dev nD → EReal) : p c + ∑ j : Fin 7, p (dn j c) = ∑ d : Dev nD, p d := by
  have h : ∀ c d : Dev nD, c ≠ d ↔ ∃ j : Fin 7, dn j c = d := by decide
  have hi : ∀ (c : Dev nD) (i j : Fin 7), dn i c = dn j c → i = j := by decide
  rw [← Finset.add_sum_erase Finset.univ p (Finset.mem_univ c)]
  congr 1
  refine Finset.sum_bij (fun j _ => dn j c) (fun j _ => ?_) (fun i _ j _ e => hi c i j e) (fun d hd => ?_) (fun _ _ => rfl)
  · exact Finset.mem_erase.mpr ⟨((h c _).mpr ⟨j, rfl⟩).symm, Finset.mem_univ _⟩
  · obtain ⟨j, hj⟩ := (h c d).mp (Finset.ne_of_mem_erase hd).symm
    exact ⟨j, Finset.mem_univ _, hj⟩

section Mesh

variable (m : (ℓ : Loc nD τ sig) → Buf (Elt Ideal) ℓ)

/-- The columns a device holds. -/
abbrev X (d : Dev nD) : FVec Ideal S768x512 .f32 := m ((d : Thread nD τ).loc main_arg0)
abbrev G (d : Dev nD) : FVec Ideal S512 .f32 := m ((d : Thread nD τ).loc main_arg1)
abbrev B (d : Dev nD) : FVec Ideal S512 .f32 := m ((d : Thread nD τ).loc main_arg2)

theorem filled_apply (c : Dev nD) (j : Fin 7) (a : Fin 2) (r : Fin 768) :
    (filled m c : FVec Ideal S7x2x768 .f32) (ix3 j a r) = k0_pay2 (F := Ideal) (X m (dn j c)) (ix2 a r) := by
  show part m (dn j c) _ = _
  unfold part
  rw [xAt_eq]
  exact congrArg (k0_pay2 (F := Ideal) (X m (dn j c))) (funext fun b => by match b with | ⟨0, _⟩ => rfl | ⟨1, _⟩ => rfl)

/-- The device's result at an index. -/
theorem outAt_apply (c : Dev nD) (r : Fin 768) (l : Fin 512) :
    (outAt m c : FVec Ideal S768x512 .f32) (ix2 r l)
      = normByMoments (X m c (ix2 r l)) (∑ d : Dev nD, ∑ k : Fin 512, X m d (ix2 r k)) (∑ d : Dev nD, ∑ k : Fin 512, X m d (ix2 r k) * X m d (ix2 r k))
        (4096 : ℝ) (Ideal.ofBits .f32 0x3727C5AC#32) (G m c (ix1 l)) (B m c (ix1 l)) := by
  unfold outAt part
  rw [xAt_eq, gAt_eq, bAt_eq]
  refine (payload_apply _ _ _ _ _ r l).trans ?_
  simp only [filled_apply, sums_apply, squares_apply]
  rw [mesh_total c (fun d => ∑ k : Fin 512, X m d (ix2 r k)), mesh_total c (fun d => ∑ k : Fin 512, X m d (ix2 r k) * X m d (ix2 r k))]

/-! ## Against the whole array -/

variable (W : FVec Ideal ⟨2, ![768, 4096]⟩ .f32) (γ β : FVec Ideal ⟨1, ![4096]⟩ .f32)

theorem columns_of {d : Dev nD} {x : FVec Ideal S768x512 .f32} (h : x = Layout.block ⟨2, ![768, 512]⟩ ⟨2, ![768, 4096]⟩ 1 8 d W) (r : Fin 768) (k : Fin 512) :
    x (ix2 r k) = W (ix2 r ⟨d.val * 512 + k.val, by have : d.val < 8 := d.isLt; omega⟩) := by
  subst h; shard_norm; shard_ext

theorem entries_of {d : Dev nD} {x : FVec Ideal S512 .f32} (h : x = Layout.block ⟨1, ![512]⟩ ⟨1, ![4096]⟩ 0 8 d γ) (k : Fin 512) :
    x (ix1 k) = γ (ix1 ⟨d.val * 512 + k.val, by have : d.val < 8 := d.isLt; omega⟩) := by
  subst h; shard_norm; shard_ext

/-- Where the precondition holds, every entry of every device's columns is a real. -/
theorem entries_real [Cert.Pre_x_finite_KernelIdeal.Facts] (hpre : Cert.Pre_KernelIdeal_x_finite_KernelIdeal m) (d : Dev nD) (r : Fin 768) (k : Fin 512) :
    ∃ y : ℝ, X m d (ix2 r k) = (y : EReal) := by
  have h := congrFun (hpre d) (ix2 r k)
  pointwise [Cert.Pre_x_finite_KernelIdeal.fn] at h
  rw [word_infinity] at h
  have h' : max (X m d (ix2 r k)) (-(X m d (ix2 r k))) < ⊤ := by
    by_contra hc
    rw [show (FloatOps.absf (X m d (ix2 r k)) : EReal) = max (X m d (ix2 r k)) (-(X m d (ix2 r k))) from rfl, decide_eq_false hc] at h
    exact absurd h (by decide)
  revert h'
  generalize X m d (ix2 r k) = v
  intro h'
  induction v using EReal.rec with
  | bot => simp at h'
  | coe y => exact ⟨y, rfl⟩
  | top => simp at h'

/-- A column of the whole array is some device's. -/
theorem column_split (K : Fin 4096) : ∃ (d : Dev nD) (k : Fin 512), K.val = d.val * 512 + k.val :=
  ⟨⟨K.val / 512, by have := K.isLt; show K.val / 512 < 8; omega⟩, ⟨K.val % 512, Nat.mod_lt _ (by decide)⟩, by show K.val = K.val / 512 * 512 + K.val % 512; omega⟩

/-- A device's result is its columns of the reference's. -/
theorem outAt_eq [Cert.Pre_x_finite_KernelIdeal.Facts] (hpre : Cert.Pre_KernelIdeal_x_finite_KernelIdeal m)
    (hX : ∀ d : Dev nD, X m d = Layout.block ⟨2, ![768, 512]⟩ ⟨2, ![768, 4096]⟩ 1 8 d W)
    (hG : ∀ d : Dev nD, G m d = Layout.block ⟨1, ![512]⟩ ⟨1, ![4096]⟩ 0 8 d γ)
    (hB : ∀ d : Dev nD, B m d = Layout.block ⟨1, ![512]⟩ ⟨1, ![4096]⟩ 0 8 d β) (c : Dev nD) :
    (outAt m c : FVec Ideal S768x512 .f32) = Layout.block ⟨2, ![768, 512]⟩ ⟨2, ![768, 4096]⟩ 1 8 c (Ref.result W γ β) := by
  funext i
  obtain ⟨r, l, rfl⟩ : ∃ (r : Fin 768) (l : Fin 512), i = ix2 r l := ⟨i 0, i 1, by funext b; match b with | ⟨0, _⟩ => rfl | ⟨1, _⟩ => rfl⟩
  have hreal (K : Fin 4096) : ∃ y : ℝ, W (ix2 r K) = (y : EReal) := by
    obtain ⟨d, k, e⟩ := column_split K
    obtain ⟨y, hy⟩ := entries_real m hpre d r k
    refine ⟨y, ?_⟩
    rw [← hy, columns_of W (hX d) r k]
    exact congrArg (fun K => W (ix2 r K)) (Fin.ext e)
  choose y hy using hreal
  obtain ⟨e, he, hw⟩ := word_guard
  rw [outAt_apply, columns_of _ rfl r l, Ref.result_apply, hw]
  simp only [fun d => columns_of W (hX d) r, entries_of γ (hG c) l, entries_of β (hB c) l]
  rw [sum_blocks (fun K => W (ix2 r K)), sum_blocks (fun K => W (ix2 r K) * W (ix2 r K))]
  simp only [hy]
  exact row_law y _ _ _ e he

end Mesh

/-! ## The claim -/

theorem agree [Cert.Pre_x_finite_KernelIdeal.Facts] : Cert.algebraic_KernelIdeal_ReferenceIdeal_pre_x_finite_KernelIdeal := fun m ρ m' ρ' hpre hargs =>
  ⟨Ref.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ h c => ⟨(h.1 c).1.trans
        (outAt_eq m _ _ _ hpre (fun d => (hargs d).1) (fun d => (hargs d).2.1) (fun d => (hargs d).2.2) c), (h.1 c).2⟩) (run_main (F := Ideal) m ρ),
    (θ_run Cert.ReferenceIdeal.defs _ _).mono (fun _ h => h 0) (Ref.run m' ρ')⟩

end Cert.LayerNorm
-- ==== Proof.lean ====
/-
# The certificate

The frames of the kernel's two printings and of the reference, and the equality of the kernel's result with the
reference's where the input's entries are finite.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Idealize.ShloMosaic Idealize.SL.Sem

theorem facts_device : Cert.Pre_x_finite_KernelIdeal.Facts := ⟨by decide⟩
theorem facts_whole : Cert.Pre_x_finite_ReferenceIdeal.Facts := ⟨by decide⟩

theorem claim : Cert.Claim :=
  haveI := facts_device
  haveI := facts_whole
  ⟨Cert.Kernel.Gen.facts, Cert.KernelIdeal.Gen.facts, Cert.ReferenceIdeal.Gen.facts, facts_device, facts_whole,
    LayerNorm.frame_kernel, LayerNorm.frame_ideal, fun m ρ _ => LayerNorm.frame_ideal m ρ trivial,
    LayerNorm.frame_reference, fun m ρ _ => LayerNorm.frame_reference m ρ trivial, trivial, LayerNorm.agree⟩

end Cert.Proof

end
